-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x5120 : Shape := ⟨3, ![16, 128, 5120]⟩
abbrev S576x5120 : Shape := ⟨2, ![576, 5120]⟩
abbrev S5x40 : Shape := ⟨2, ![5, 40]⟩
abbrev S512 : Shape := ⟨1, ![512]⟩
abbrev S_ : Shape := ⟨0, ![]⟩

class Facts : Prop where
  bcast_S_S16x128x5120 : S_.BroadcastsInDim S16x128x5120 (![] : Fin 0 → Fin S16x128x5120.rank)
  bcast_S_S512 : S_.BroadcastsInDim S512 (![] : Fin 0 → Fin S512.rank)

variable [Facts]

def fn {F : FTy → Type} [FloatOps F] (main_arg0 : FVec F S16x128x5120 .bf16) (main_arg1 : FVec F S576x5120 .fp8e4m3) (main_arg2 : FVec F S5x40 .f32) (main_arg3 : FVec F S512 .f32) : IVec S16x128x5120 1 × IVec S512 1 :=
  let main_v0 : FVec F S16x128x5120 .bf16 := Host.absf main_arg0
  let main_cst : FVec F S_ .bf16 := constant S_ .bf16 0x7F7F#16
  let main_v1 : FVec F S16x128x5120 .bf16 := broadcastInDim S16x128x5120 ![] bcast_S_S16x128x5120 main_cst
  let main_v2 : IVec S16x128x5120 1 := cmpf .ole main_v0 main_v1
  let main_v3 : FVec F S512 .f32 := Host.absf main_arg3
  let main_cst_0 : FVec F S_ .f32 := constant S_ .f32 0x7F7FFFFF#32
  let main_v4 : FVec F S512 .f32 := broadcastInDim S512 ![] bcast_S_S512 main_cst_0
  let main_v5 : IVec S512 1 := cmpf .ole main_v3 main_v4
  (main_v2, main_v5)
-- ==== Kernel.lean ====
abbrev S16x128x5120 : Shape := ⟨3, ![16, 128, 5120]⟩
abbrev S576x5120 : Shape := ⟨2, ![576, 5120]⟩
abbrev S5x40 : Shape := ⟨2, ![5, 40]⟩
abbrev S512 : Shape := ⟨1, ![512]⟩
abbrev S2048x5120 : Shape := ⟨2, ![2048, 5120]⟩
abbrev S1x512 : Shape := ⟨2, ![1, 512]⟩
abbrev S2048x512 : Shape := ⟨2, ![2048, 512]⟩
abbrev S2048x4 : Shape := ⟨2, ![2048, 4]⟩
abbrev S2048x64 : Shape := ⟨2, ![2048, 64]⟩
abbrev S2048x40 : Shape := ⟨2, ![2048, 40]⟩
abbrev S256x5120 : Shape := ⟨2, ![256, 5120]⟩
abbrev S256x512 : Shape := ⟨2, ![256, 512]⟩
abbrev S256x4 : Shape := ⟨2, ![256, 4]⟩
abbrev S256x64 : Shape := ⟨2, ![256, 64]⟩
abbrev S256x40 : Shape := ⟨2, ![256, 40]⟩
abbrev S512x128 : Shape := ⟨2, ![512, 128]⟩
abbrev S1x1 : Shape := ⟨2, ![1, 1]⟩
abbrev S128x128 : Shape := ⟨2, ![128, 128]⟩
abbrev S64x128 : Shape := ⟨2, ![64, 128]⟩
abbrev S128x512 : Shape := ⟨2, ![128, 512]⟩
abbrev S256x128 : Shape := ⟨2, ![256, 128]⟩
abbrev S256 : Shape := ⟨1, ![256]⟩
abbrev S256x1 : Shape := ⟨2, ![256, 1]⟩
abbrev S576x256 : Shape := ⟨2, ![576, 256]⟩
abbrev S512x256 : Shape := ⟨2, ![512, 256]⟩
abbrev S1x256 : Shape := ⟨2, ![1, 256]⟩
abbrev S128x256 : Shape := ⟨2, ![128, 256]⟩
abbrev S4x256 : Shape := ⟨2, ![4, 256]⟩
abbrev S8x256 : Shape := ⟨2, ![8, 256]⟩
abbrev S256x8 : Shape := ⟨2, ![256, 8]⟩
abbrev S64x256 : Shape := ⟨2, ![64, 256]⟩

abbrev nBuf : Space → Nat
  | .hbm => 11
  | .vmem => 17
  | .smem => 1
  | _ => 0

abbrev bufTy : (tb : Table) → Fin (tcTables nBuf tb) → BufTy
  | .hbm, ⟨0, _⟩ => ⟨S16x128x5120, .bf16⟩
  | .hbm, ⟨1, _⟩ => ⟨S576x5120, .fp8e4m3⟩
  | .hbm, ⟨2, _⟩ => ⟨S5x40, .f32⟩
  | .hbm, ⟨3, _⟩ => ⟨S512, .f32⟩
  | .hbm, ⟨4, _⟩ => ⟨S2048x5120, .bf16⟩
  | .hbm, ⟨5, _⟩ => ⟨S1x512, .f32⟩
  | .hbm, ⟨6, _⟩ => ⟨S2048x512, .fp8e4m3⟩
  | .hbm, ⟨7, _⟩ => ⟨S2048x4, .f32⟩
  | .hbm, ⟨8, _⟩ => ⟨S2048x64, .bf16⟩
  | .hbm, ⟨9, _⟩ => ⟨S2048x5120, .fp8e4m3⟩
  | .hbm, ⟨10, _⟩ => ⟨S2048x40, .f32⟩
  | .local _ .vmem, ⟨0, _⟩ => ⟨S256x5120, .bf16⟩
  | .local _ .vmem, ⟨1, _⟩ => ⟨S256x5120, .bf16⟩
  | .local _ .vmem, ⟨2, _⟩ => ⟨S576x5120, .fp8e4m3⟩
  | .local _ .vmem, ⟨3, _⟩ => ⟨S1x512, .f32⟩
  | .local _ .vmem, ⟨4, _⟩ => ⟨S256x512, .fp8e4m3⟩
  | .local _ .vmem, ⟨5, _⟩ => ⟨S256x512, .fp8e4m3⟩
  | .local _ .vmem, ⟨6, _⟩ => ⟨S256x4, .f32⟩
  | .local _ .vmem, ⟨7, _⟩ => ⟨S256x4, .f32⟩
  | .local _ .vmem, ⟨8, _⟩ => ⟨S256x64, .bf16⟩
  | .local _ .vmem, ⟨9, _⟩ => ⟨S256x64, .bf16⟩
  | .local _ .vmem, ⟨10, _⟩ => ⟨S256x5120, .fp8e4m3⟩
  | .local _ .vmem, ⟨11, _⟩ => ⟨S256x5120, .fp8e4m3⟩
  | .local _ .vmem, ⟨12, _⟩ => ⟨S256x40, .f32⟩
  | .local _ .vmem, ⟨13, _⟩ => ⟨S256x40, .f32⟩
  | .local _ .vmem, ⟨14, _⟩ => ⟨S576x5120, .bf16⟩
  | .local _ .vmem, ⟨15, _⟩ => ⟨S256x5120, .bf16⟩
  | .local _ .vmem, ⟨16, _⟩ => ⟨S512x128, .f32⟩
  | .local _ .smem, ⟨0, _⟩ => ⟨S5x40, .f32⟩
  | _, _ => ⟨S16x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x128x5120 : Shape := ⟨3, ![16, 128, 5120]⟩
abbrev S576x5120 : Shape := ⟨2, ![576, 5120]⟩
abbrev S5x40 : Shape := ⟨2, ![5, 40]⟩
abbrev S512 : Shape := ⟨1, ![512]⟩
abbrev S5x128x40 : Shape := ⟨3, ![5, 128, 40]⟩
abbrev S640x40 : Shape := ⟨2, ![640, 40]⟩
abbrev S640x40x128 : Shape := ⟨3, ![640, 40, 128]⟩
abbrev S640x5120 : Shape := ⟨2, ![640, 5120]⟩
abbrev S2048x40x128 : Shape := ⟨3, ![2048, 40, 128]⟩
abbrev S1x512 : Shape := ⟨2, ![1, 512]⟩
abbrev S2048x512 : Shape := ⟨2, ![2048, 512]⟩
abbrev S2048x4 : Shape := ⟨2, ![2048, 4]⟩
abbrev S2048x64 : Shape := ⟨2, ![2048, 64]⟩
abbrev S2048x5120 : Shape := ⟨2, ![2048, 5120]⟩
abbrev S2048x40 : Shape := ⟨2, ![2048, 40]⟩
abbrev S2048x40x1 : Shape := ⟨3, ![2048, 40, 1]⟩
abbrev S2048x40x253 : Shape := ⟨3, ![2048, 40, 253]⟩
abbrev S2048x576 : Shape := ⟨2, ![2048, 576]⟩
abbrev S2048 : Shape := ⟨1, ![2048]⟩
abbrev S2048x1 : Shape := ⟨2, ![2048, 1]⟩
abbrev S2048x4x128 : Shape := ⟨3, ![2048, 4, 128]⟩
abbrev S2048x4x1 : Shape := ⟨3, ![2048, 4, 1]⟩
abbrev S2048x4x253 : Shape := ⟨3, ![2048, 4, 253]⟩

abbrev nBuf : Space → Nat
  | .hbm => 16
  | .vmem => 9
  | .smem => 0
  | _ => 0

abbrev bufTy : (tb : Table) → Fin (tcTables nBuf tb) → BufTy
  | .hbm, ⟨0, _⟩ => ⟨S16x128x5120, .bf16⟩
  | .hbm, ⟨1, _⟩ => ⟨S576x5120, .fp8e4m3⟩
  | .hbm, ⟨2, _⟩ => ⟨S5x40, .f32⟩
  | .hbm, ⟨3, _⟩ => ⟨S512, .f32⟩
  | .hbm, ⟨4, _⟩ => ⟨S5x128x40, .f32⟩
  | .hbm, ⟨5, _⟩ => ⟨S640x40, .f32⟩
  | .hbm, ⟨6, _⟩ => ⟨S640x40x128, .f32⟩
  | .hbm, ⟨7, _⟩ => ⟨S640x5120, .f32⟩
  | .hbm, ⟨8, _⟩ => ⟨S576x5120, .f32⟩
  | .hbm, ⟨9, _⟩ => ⟨S2048x40x128, .bf16⟩
  | .hbm, ⟨10, _⟩ => ⟨S1x512, .f32⟩
  | .hbm, ⟨11, _⟩ => ⟨S2048x512, .fp8e4m3⟩
  | .hbm, ⟨12, _⟩ => ⟨S2048x4, .f32⟩
  | .hbm, ⟨13, _⟩ => ⟨S2048x64, .bf16⟩
  | .hbm, ⟨14, _⟩ => ⟨S2048x5120, .fp8e4m3⟩
  | .hbm, ⟨15, _⟩ => ⟨S2048x40, .f32⟩
  | .local _ .vmem, ⟨0, _⟩ => ⟨S2048x40x128, .bf16⟩
  | .local _ .vmem, ⟨1, _⟩ => ⟨S576x5120, .fp8e4m3⟩
  | .local _ .vmem, ⟨2, _⟩ => ⟨S576x5120, .f32⟩
  | .local _ .vmem, ⟨3, _⟩ => ⟨S1x512, .f32⟩
  | .local _ .vmem, ⟨4, _⟩ => ⟨S2048x512, .fp8e4m3⟩
  | .local _ .vmem, ⟨5, _⟩ => ⟨S2048x4, .f32⟩
  | .local _ .vmem, ⟨6, _⟩ => ⟨S2048x64, .bf16⟩
  | .local _ .vmem, ⟨7, _⟩ => ⟨S2048x5120, .fp8e4m3⟩
  | .local _ .vmem, ⟨8, _⟩ => ⟨S2048x40, .f32⟩
  | _, _ => ⟨S16x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x40x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
module
public import Idealize.ShloMosaic.Lib.Pointwise

@[expose] public section

noncomputable section

namespace Cert.Latent

open Idealize.ShloMosaic

/-- The power of two with exponent field `n`, as an extended real. -/
def pw (n : ℕ) : EReal := (((2 : ℝ) ^ ((n : ℤ) - 127) : ℝ) : EReal)

/-- The word of a binary32 with exponent field `n`, sign and mantissa zero. -/
def field (n : ℕ) : BitVec 32 := BitVec.ofNat 32 (n * 2 ^ 23)

/-- Sign, exponent and mantissa of an exponent field. -/
theorem field_parts : ∀ n : Fin 256, (field n).extractLsb' 31 1 = 0#1
    ∧ ((field n).extractLsb' 23 8).toNat = n ∧ ((field n).extractLsb' 0 23).toNat = 0 := by
  decide +kernel

/-- A word with exponent field n and nothing else is a power of two. -/
theorem ofBits_field {n : ℕ} (h1 : 1 ≤ n) (h2 : n ≤ 254) : Ideal.ofBits .f32 (field n) = pw n := by
  obtain ⟨hs, he, hf⟩ := field_parts ⟨n, by omega⟩
  simp only at hs he hf
  have hz : (2 : ℝ) ^ ((n : ℤ) - 127) = 2 ^ 23 * (2 : ℝ) ^ ((n : ℤ) - 127 - 23) := by
    rw [← zpow_natCast, ← zpow_add₀ (by norm_num)]; congr 1; push_cast; ring
  unfold Ideal.ofBits Ideal.ieee
  simp only [hs, he, hf, pw, hz]
  rw [if_neg (by omega), if_neg (by omega)]
  norm_num

/-- The field 0 is zero. -/
theorem ofBits_field_zero : Ideal.ofBits .f32 (field 0) = 0 := by
  simp [field, Ideal.ofBits, Ideal.ieee]

/-- The field 255 is infinity. -/
theorem ofBits_field_top : Ideal.ofBits .f32 (field 255) = ⊤ := by
  simp [field, Ideal.ofBits, Ideal.ieee]

/-- The powers grow. -/
theorem pw_mono {a b : ℕ} (h : a ≤ b) : pw a ≤ pw b := by
  unfold pw
  exact EReal.coe_le_coe_iff.mpr (zpow_le_zpow_right₀ (by norm_num : (1 : ℝ) ≤ 2) (by omega))

/-- The powers grow strictly. -/
theorem pw_lt {a b : ℕ} (h : a < b) : pw a < pw b := by
  unfold pw
  exact EReal.coe_lt_coe_iff.mpr (zpow_lt_zpow_right₀ (by norm_num : (1 : ℝ) < 2) (by omega))

/-- Fields add as integers. -/
theorem field_add (a b : ℕ) : field a + field b = field (a + b) := by
  unfold field; rw [← BitVec.ofNat_add, Nat.add_mul]

/-- One step of the search for the exponent field: `s` is added when the power it names is still at most `t`. -/
def step (t : EReal) (s b : BitVec 32) : BitVec 32 :=
  Scalar.select (FloatOps.cmpf (F := Ideal) (φ := .f32) .oge t (Ideal.ofBits .f32 (b + s))) (b + s) b

/-- One step of the search keeps the greater word when its power is at most t. -/
theorem step_eq (t : EReal) (s b : BitVec 32) : step t s b = if Ideal.ofBits .f32 (b + s) ≤ t then b + s else b := by
  unfold step
  show (if BitVec.ofBool (decide (Ideal.ofBits .f32 (b + s) ≤ t)) = 1 then _ else _) = _
  by_cases h : Ideal.ofBits .f32 (b + s) ≤ t <;> simp [h]

/-- What the search knows with `2 ^ j` fields left: the field found so far, and that the answer is near. -/
def Near (t : EReal) (n j : ℕ) : Prop :=
  Ideal.ofBits .f32 (field n) ≤ t ∧ n + 2 ^ j ≤ 256 ∧ (n + 2 ^ j ≤ 255 → t < Ideal.ofBits .f32 (field (n + 2 ^ j)))

/-- One step of the search halves the range in which the field lies. -/
theorem Near.step {t : EReal} {b : BitVec 32} {j : ℕ} (s : BitVec 32) (hs : s = field (2 ^ j))
    (h : ∃ n, b = field n ∧ Near t n (j + 1)) :
    ∃ n, step t s b = field n ∧ Near t n j := by
  obtain ⟨n, rfl, h0, h1, h2⟩ := h
  have hp := Nat.two_pow_pos j
  have e : 2 ^ (j + 1) = 2 ^ j + 2 ^ j := by rw [pow_succ]; omega
  rw [step_eq, hs, field_add]
  split
  · next hle =>
    refine ⟨_, rfl, hle, by omega, fun hb => ?_⟩
    have := h2 (by omega)
    rwa [e, ← add_assoc] at this
  · next hle => exact ⟨_, rfl, h0, by omega, fun _ => not_le.mp hle⟩

/-- The first six steps of the search. -/
def search6 (t : EReal) : BitVec 32 :=
  step t 33554432#32 (step t 67108864#32 (step t 134217728#32 (step t 268435456#32 (step t 536870912#32
    (step t 1073741824#32 0#32)))))

/-- The last two steps of the search from the field found so far. -/
def search2 (t : EReal) (b : BitVec 32) : BitVec 32 := step t 8388608#32 (step t 16777216#32 b)

/-- The scale's word from the exponent field found: one for a field of zero, else the next power of two. -/
def scaleWord (b : BitVec 32) : BitVec 32 :=
  Scalar.select (IntOp.cmpi .slt b 8388608#32) 1065353216#32 (IntOp.addi (IntOp.andi b 2139095040#32) 8388608#32)

/-- The kernel's scale of a threshold `t`. -/
def kscale (t : EReal) : EReal := Ideal.ofBits .f32 (scaleWord (search2 t (search6 t)))

/-- The kernel's inverse scale of a threshold `t`. -/
def kinv (t : EReal) : EReal := Ideal.ofBits .f32 (IntOp.subi 2130706432#32 (scaleWord (search2 t (search6 t))))

/-- The search finds the greatest field whose power of two is at most t. -/
theorem search_spec {t : EReal} (h0 : 0 ≤ t) (h1 : t < pw 253) :
    ∃ n, search2 t (search6 t) = field n ∧ n ≤ 252 ∧ (n = 0 → t < pw 1) ∧ (1 ≤ n → pw n ≤ t ∧ t < pw (n + 1)) := by
  have h : ∃ n, search2 t (search6 t) = field n ∧ Near t n 0 := by
    unfold search2 search6
    refine Near.step _ rfl (Near.step _ rfl (Near.step _ rfl (Near.step _ rfl (Near.step _ rfl (Near.step _ rfl
      (Near.step _ rfl (Near.step _ rfl ⟨0, rfl, ?_, by norm_num, fun h => absurd h (by norm_num)⟩)))))))
    rw [ofBits_field_zero]; exact h0
  obtain ⟨n, hn, g0, g1, g2⟩ := h
  have hlt : n < 253 := by
    by_contra hc
    have hc : 253 ≤ n := not_lt.mp hc
    rcases Nat.lt_or_ge n 255 with h | h
    · rw [ofBits_field (by omega) (by omega)] at g0
      exact absurd (lt_of_le_of_lt g0 h1) (not_lt.mpr (pw_mono hc))
    · have : n = 255 := by omega
      rw [this, ofBits_field_top] at g0
      exact absurd (lt_of_le_of_lt g0 h1) (not_lt.mpr le_top)
  have g2 := g2 (by omega)
  rw [pow_zero, ofBits_field (by omega) (by omega)] at g2
  refine ⟨n, hn, by omega, ?_, fun h => ⟨?_, g2⟩⟩
  · rintro rfl; exact g2
  · rwa [ofBits_field h (by omega)] at g0

/-- The word of the scale: one at field 0, otherwise the next field. -/
theorem scaleWord_field : ∀ n : Fin 253, scaleWord (field n) = field (if n.val = 0 then 127 else n.val + 1)
    ∧ IntOp.subi 2130706432#32 (scaleWord (field n)) = field (if n.val = 0 then 127 else 253 - n.val) := by
  decide +kernel

/-- Field 127 is one. -/
theorem pw_127 : pw 127 = 1 := by simp [pw]

/-- Below the smallest normal the kernel's scale and its inverse are one. -/
theorem kscale_small {t : EReal} (h0 : 0 ≤ t) (h1 : t < pw 1) : kscale t = 1 ∧ kinv t = 1 := by
  obtain ⟨n, hn, hb, hz, hp⟩ := search_spec h0 (h1.trans (pw_lt (by norm_num)))
  have : n = 0 := by
    by_contra hc
    exact absurd h1 (not_lt.mpr ((pw_mono (by omega)).trans (hp (by omega)).1))
  subst this
  obtain ⟨e1, e2⟩ := scaleWord_field ⟨0, by omega⟩
  simp only [if_true] at e1 e2
  unfold kscale kinv
  rw [hn, e2, e1, ofBits_field (by norm_num) (by norm_num), pw_127]
  exact ⟨rfl, rfl⟩

/-- From the smallest normal on the kernel's scale is the next power of two above `t`, its inverse that power's. -/
theorem kscale_normal {t : EReal} (h0 : pw 1 ≤ t) (h1 : t < pw 253) :
    ∃ n, 1 ≤ n ∧ n ≤ 252 ∧ pw n ≤ t ∧ t < pw (n + 1) ∧ kscale t = pw (n + 1) ∧ kinv t = pw (253 - n) := by
  have hpos : (0 : EReal) ≤ pw 1 := by unfold pw; exact_mod_cast (by positivity : (0:ℝ) ≤ 2 ^ (((1:ℕ):ℤ) - 127))
  obtain ⟨n, hn, hb, hz, hp⟩ := search_spec (hpos.trans h0) h1
  have h1n : 1 ≤ n := by
    by_contra hc
    exact absurd (hz (by omega)) (not_lt.mpr h0)
  obtain ⟨e1, e2⟩ := scaleWord_field ⟨n, by omega⟩
  simp only [if_neg (show ¬ n = 0 by omega)] at e1 e2
  refine ⟨n, h1n, hb, (hp h1n).1, (hp h1n).2, ?_, ?_⟩
  · unfold kscale; rw [hn, e1, ofBits_field (by omega) (by omega)]
  · unfold kinv; rw [hn, e2, ofBits_field (by omega) (by omega)]

/-! ### The reference's scale -/

/-- The `x`-th entry of the reference's table of powers of two. -/
def power (x : Fin 253) : EReal :=
  FloatOps.exp2 (F := Ideal) (φ := .f32)
    (FloatOps.sitofp (F := Ideal) .f32 (BitVec.ofNat 32 x) - Ideal.ofBits .f32 0x42FA0000#32 : EReal)

/-- The reference's scale of a threshold: one below the smallest normal, else the least listed power of two above it. -/
def rscale (t : EReal) : EReal :=
  if t < Ideal.ofBits .f32 0x00800000#32 then 1 else
    Finset.univ.fold min (Ideal.ofBits .f32 0x7F800000#32) fun x : Fin 253 =>
      if t < power x then power x else Ideal.ofBits .f32 0x7F800000#32

/-- The word of 125. -/
theorem ofBits_125 : Ideal.ofBits .f32 0x42FA0000#32 = ((125 : ℝ) : EReal) := by
  simp [Ideal.ofBits, Ideal.ieee, -EReal.coe_mul]; norm_num

/-- The reference's table of powers. -/
theorem power_eq (x : Fin 253) : power x = pw (x + 2) := by
  have hx : (BitVec.ofNat 32 x.val).toInt = (x.val : ℤ) := by
    have := x.isLt
    rw [BitVec.toInt_eq_toNat_of_lt (by rw [BitVec.toNat_ofNat]; omega), BitVec.toNat_ofNat]
    omega
  unfold power
  rw [ofBits_125]
  show Ideal.exp2 ((((BitVec.ofNat 32 x.val).toInt : ℝ) : EReal) - ((125 : ℝ) : EReal)) = _
  rw [hx, ← EReal.coe_sub]
  show ((Real.rpow 2 _ : ℝ) : EReal) = _
  unfold pw
  congr 1
  rw [← Real.rpow_intCast]
  refine congrArg (Real.rpow 2) ?_
  push_cast; ring

/-- The word of 2^-126. -/
theorem ofBits_tiny : Ideal.ofBits .f32 0x00800000#32 = pw 1 := ofBits_field (n := 1) le_rfl (by norm_num)

/-- The word of infinity. -/
theorem ofBits_inf : Ideal.ofBits .f32 0x7F800000#32 = ⊤ := ofBits_field_top

/-- The reference's scale below 2^-126 is one. -/
theorem rscale_small {t : EReal} (h : t < pw 1) : rscale t = 1 := by
  unfold rscale; rw [ofBits_tiny, if_pos h]

/-- The reference's scale is the power of two next above t. -/
theorem rscale_normal {t : EReal} {n : ℕ} (h1 : 1 ≤ n) (h2 : n ≤ 252) (hl : pw n ≤ t) (hu : t < pw (n + 1)) :
    rscale t = pw (n + 1) := by
  unfold rscale
  rw [ofBits_tiny, if_neg (not_lt.mpr ((pw_mono h1).trans hl)), ofBits_inf]
  refine le_antisymm ((Finset.fold_min_le _).mpr (Or.inr ⟨⟨n - 1, by omega⟩, Finset.mem_univ _, ?_⟩))
    ((Finset.le_fold_min _).mpr ⟨le_top, fun x _ => ?_⟩)
  · rw [power_eq, show n - 1 + 2 = n + 1 by omega, if_pos hu]
  · rw [power_eq]
    split
    · next h =>
      refine pw_mono ?_
      by_contra hc
      exact absurd (h.trans_le (pw_mono (show x.val + 2 ≤ n by omega))) (not_lt.mpr hl)
    · exact le_top

/-- One over one. -/
theorem div_one_one : Ideal.div 1 1 = 1 := by
  unfold Ideal.div
  rw [if_neg one_ne_zero, one_mul]
  rw [← EReal.coe_one, ← EReal.coe_inv, inv_one]

/-- One over a power of two is the opposite power. -/
theorem div_one_pw (n : ℕ) (h : n ≤ 253) : Ideal.div 1 (pw (n + 1)) = pw (253 - n) := by
  have hp : (0 : ℝ) < 2 ^ (((n + 1 : ℕ) : ℤ) - 127) := by positivity
  unfold Ideal.div pw
  rw [if_neg (by exact_mod_cast hp.ne'), one_mul, ← EReal.coe_inv, ← zpow_neg]
  congr 2
  push_cast [h]; ring

/-- The kernel's scale and inverse scale are the reference's, for a threshold between zero and `2 ^ 126`. -/
theorem kscale_eq {t : EReal} (h0 : 0 ≤ t) (h1 : t < pw 253) :
    kscale t = rscale t ∧ kinv t = Ideal.div 1 (rscale t) := by
  rcases lt_or_ge t (pw 1) with h | h
  · obtain ⟨e1, e2⟩ := kscale_small h0 h
    rw [e1, e2, rscale_small h, div_one_one]; exact ⟨rfl, rfl⟩
  · obtain ⟨n, hn, hb, hl, hu, e1, e2⟩ := kscale_normal h h1
    rw [e1, e2, rscale_normal hn hb hl hu, div_one_pw n (by omega)]; exact ⟨rfl, rfl⟩

/-! ### Codes -/

/-- The bound of a row of 128 numbers from which its scale is taken: the largest magnitude over 448. -/
def thr (f : Fin 128 → EReal) : EReal :=
  (Finset.univ.fold max ⊥ fun x => max (f x) (-(f x))) * Ideal.ofBits .f32 0x3B124925#32

/-- The kernel's code of `x` at threshold `t`. -/
def kcode (t x : EReal) : EReal :=
  min (Ideal.ofBits .f32 0x43E00000#32) (max (Ideal.ofBits .f32 0xC3E00000#32) (x * kinv t))

/-- The reference's code of `x` at threshold `t`. -/
def rcode (t x : EReal) : EReal :=
  min (Ideal.ofBits .f32 0x43E00000#32) (max (Ideal.ofBits .f32 0xC3E00000#32) (x * Ideal.div 1 (rscale t)))

/-- 448 as f32 and as bf16. -/
theorem ofBits_448 : Ideal.ofBits .f32 0x43E00000#32 = Ideal.ofBits .bf16 0x43E0#16 := by
  simp [Ideal.ofBits, Ideal.ieee, -EReal.coe_mul]; norm_num

/-- -448 as f32 and as bf16. -/
theorem ofBits_neg448 : Ideal.ofBits .f32 0xC3E00000#32 = Ideal.ofBits .bf16 0xC3E0#16 := by
  simp [Ideal.ofBits, Ideal.ieee, -EReal.coe_mul]; norm_num

/-- The word of 1/448 is a small positive real. -/
theorem ofBits_448inv : ∃ r : ℝ, 0 < r ∧ r < 1 / 256 ∧ Ideal.ofBits .f32 0x3B124925#32 = (r : EReal) := by
  refine ⟨9586981 * (2 : ℝ) ^ (-32 : ℤ), by positivity, by norm_num, ?_⟩
  simp [Ideal.ofBits, Ideal.ieee, -EReal.coe_mul]

/-- A threshold is not negative. -/
theorem thr_nonneg (f : Fin 128 → EReal) : 0 ≤ thr f := by
  obtain ⟨r, h0, _, hr⟩ := ofBits_448inv
  unfold thr
  rw [hr]
  refine mul_nonneg ((Finset.le_fold_max _).mpr (Or.inr ⟨0, Finset.mem_univ _, ?_⟩)) (by exact_mod_cast h0.le)
  rcases le_total 0 (f 0) with h | h
  · exact le_max_of_le_left h
  · exact le_max_of_le_right (by rwa [EReal.le_neg, neg_zero])

/-- A row bounded by a real below `2 ^ 134` has its threshold below `2 ^ 126`. -/
theorem thr_lt {f : Fin 128 → EReal} {b : ℝ} (hb : b ≤ 2 ^ 134) (h : ∀ x, max (f x) (-(f x)) ≤ (b : EReal)) :
    thr f < pw 253 := by
  obtain ⟨r, h0, h1, hr⟩ := ofBits_448inv
  have hm : (Finset.univ.fold max ⊥ fun x => max (f x) (-(f x))) ≤ ((2 ^ 134 : ℝ) : EReal) :=
    (Finset.fold_max_le _).mpr ⟨bot_le, fun x _ => (h x).trans (by exact_mod_cast hb)⟩
  unfold thr pw
  rw [hr]
  refine (mul_le_mul_of_nonneg_right hm (by exact_mod_cast h0.le)).trans_lt ?_
  rw [← EReal.coe_mul]
  refine EReal.coe_lt_coe_iff.mpr ?_
  calc (2 : ℝ) ^ 134 * r < 2 ^ 134 * (1 / 256) := by gcongr
    _ = _ := by norm_num

/-- Where the threshold is below `2 ^ 126` the kernel's scale and codes are the reference's. -/
theorem kcode_eq {f : Fin 128 → EReal} (h : thr f < pw 253) (x : EReal) :
    kscale (thr f) = rscale (thr f) ∧ kcode (thr f) x = rcode (thr f) x := by
  obtain ⟨e1, e2⟩ := kscale_eq (thr_nonneg f) h
  refine ⟨e1, ?_⟩
  unfold kcode rcode
  rw [e2]

end Cert.Latent

end
-- ==== Proof.Token.lean ====
module

public import proofs.«01_k».proof.Proof.Scale

@[expose] public section

noncomputable section

namespace Cert.Latent

open Idealize.ShloMosaic

/-- The block of 128 a column lies in. -/
def blk (c : Fin 5120) : Fin 40 := ⟨c.val / 128, by omega⟩

/-- A column's place in its block. -/
def lane (c : Fin 5120) : Fin 128 := ⟨c.val % 128, by omega⟩

/-- The `j`-th latent row among the 576 rows of the weights. -/
def lat (j : Fin 512) : Fin 576 := ⟨j.val, by omega⟩

/-- The `p`-th positional row among the 576 rows of the weights. -/
def pos (p : Fin 64) : Fin 576 := ⟨512 + p.val, by omega⟩

/-- The latent entry at place `l` of block `j`. -/
def cell (j : Fin 4) (l : Fin 128) : Fin 512 := ⟨128 * j.val + l.val, by omega⟩

section Kernel

variable (x : Fin 40 → Fin 128 → EReal) (W : Fin 576 → Fin 5120 → EReal) (Γ : Fin 512 → EReal)

/-- The kernel's quantised activation of one token, widened again. -/
def kxw (c : Fin 5120) : EReal := kcode (thr (x (blk c))) (x (blk c) (lane c)) * kscale (thr (x (blk c)))

/-- The kernel's projection of one token. -/
def ky (o : Fin 576) : EReal := ∑ c, W o c * kxw x c

/-- The kernel's factor of the norm of one token. -/
def krs : EReal :=
  Ideal.rsqrt ((∑ j : Fin 512, ky x W (lat j) * ky x W (lat j)) * Ideal.ofBits .f32 0x3B000000#32
    + Ideal.ofBits .f32 0x358637BD#32)

/-- The kernel's normalised latent of one token, by blocks. -/
def kcn (j : Fin 4) (l : Fin 128) : EReal := ky x W (lat (cell j l)) * krs x W * Γ (cell j l)

end Kernel

section Reference

variable (x : Fin 40 → Fin 128 → EReal) (W : Fin 576 → Fin 5120 → EReal) (Γ : Fin 512 → EReal)

/-- The reference's quantised activation of one token, widened again. -/
def rxw (c : Fin 5120) : EReal := rcode (thr (x (blk c))) (x (blk c) (lane c)) * rscale (thr (x (blk c)))

/-- The reference's projection of one token. -/
def ry (o : Fin 576) : EReal := ∑ c, rxw x c * W o c

/-- The reference's factor of the norm of one token. -/
def rrs : EReal :=
  Ideal.rsqrt (Ideal.div (∑ j : Fin 512, ry x W (lat j) * ry x W (lat j)) (Ideal.ofBits .f32 0x44000000#32)
    + Ideal.ofBits .f32 0x358637BD#32)

/-- The reference's normalised latent of one token, by blocks. -/
def rcn (j : Fin 4) (l : Fin 128) : EReal := ry x W (lat (cell j l)) * rrs x W * Γ (cell j l)

end Reference

/-! ### The two agree -/

section Agree

variable {x : Fin 40 → Fin 128 → EReal} {W : Fin 576 → Fin 5120 → EReal} {Γ : Fin 512 → EReal}

/-- A row of finite activations has its threshold below `2 ^ 126`. -/
theorem thr_x (hx : ∀ k l, max (x k l) (-(x k l)) ≤ ((2 ^ 128 : ℝ) : EReal)) (k : Fin 40) : thr (x k) < pw 253 :=
  thr_lt (by norm_num) (hx k)

/-- The dequantised inputs agree. -/
theorem kxw_eq (hx : ∀ k l, max (x k l) (-(x k l)) ≤ ((2 ^ 128 : ℝ) : EReal)) (c : Fin 5120) : kxw x c = rxw x c := by
  obtain ⟨e1, e2⟩ := kcode_eq (thr_x hx (blk c)) (x (blk c) (lane c))
  unfold kxw rxw
  rw [e1, e2]

/-- The products agree. -/
theorem ky_eq (hx : ∀ k l, max (x k l) (-(x k l)) ≤ ((2 ^ 128 : ℝ) : EReal)) (o : Fin 576) : ky x W o = ry x W o :=
  Finset.sum_congr rfl fun c _ => by rw [kxw_eq hx, mul_comm]

/-- The word of 1/512. -/
theorem ofBits_512inv : Ideal.ofBits .f32 0x3B000000#32 = ((1 / 512 : ℝ) : EReal) := by
  simp [Ideal.ofBits, Ideal.ieee, -EReal.coe_mul]; norm_num

/-- The word of 512. -/
theorem ofBits_512 : Ideal.ofBits .f32 0x44000000#32 = ((512 : ℝ) : EReal) := by
  simp [Ideal.ofBits, Ideal.ieee, -EReal.coe_mul]; norm_num

/-- The word of the norm's epsilon is a positive real. -/
theorem ofBits_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- Dividing by 512 is multiplying by 1/512. -/
theorem div_512 (a : EReal) : Ideal.div a (Ideal.ofBits .f32 0x44000000#32) = a * Ideal.ofBits .f32 0x3B000000#32 := by
  rw [ofBits_512, ofBits_512inv]
  unfold Ideal.div
  rw [if_neg (by exact_mod_cast (by norm_num : (512 : ℝ) ≠ 0)), ← EReal.coe_inv]
  norm_num

/-- The reciprocal roots agree. -/
theorem krs_eq (hx : ∀ k l, max (x k l) (-(x k l)) ≤ ((2 ^ 128 : ℝ) : EReal)) : krs x W = rrs x W := by
  unfold krs rrs
  simp only [ky_eq hx, div_512]

/-- The normed latents agree. -/
theorem kcn_eq (hx : ∀ k l, max (x k l) (-(x k l)) ≤ ((2 ^ 128 : ℝ) : EReal)) (j : Fin 4) (l : Fin 128) :
    kcn x W Γ j l = rcn x W Γ j l := by
  unfold kcn rcn
  rw [ky_eq hx, krs_eq hx]

/-- A square is not negative. -/
theorem mul_self_nonneg' (a : EReal) : 0 ≤ a * a := by
  rcases le_total 0 a with h | h
  · exact mul_nonneg h h
  · have := mul_nonneg (EReal.neg_nonneg.mpr h) (EReal.neg_nonneg.mpr h)
    rwa [neg_mul_neg] at this

/-- An extended real of bounded magnitude is a real. -/
theorem real_of_abs_le {a : EReal} {b : ℝ} (h : max a (-a) ≤ (b : EReal)) : ∃ r : ℝ, a = (r : EReal) ∧ |r| ≤ b := by
  induction a with
  | bot => simp at h
  | top => simp at h
  | coe r =>
    refine ⟨r, rfl, ?_⟩
    rw [← EReal.coe_neg] at h
    exact max_le (EReal.coe_le_coe_iff.mp ((le_max_left _ _).trans h)) (EReal.coe_le_coe_iff.mp ((le_max_right _ _).trans h))

/-- A finite sum of reals as a sum of extended reals. -/
theorem coe_sum (r : Fin 512 → ℝ) : ((∑ i, r i : ℝ) : EReal) = ∑ i, (r i : EReal) :=
  map_sum (⟨⟨Real.toEReal, EReal.coe_zero⟩, EReal.coe_add⟩ : ℝ →+ EReal) r Finset.univ

/-- The norm divides a vector to entries of at most 32: over an infinite vector it gives zero. -/
theorem norm_bound (y : Fin 512 → EReal) (j : Fin 512) :
    ∃ r : ℝ, |r| ≤ 32 ∧ y j * Ideal.rsqrt ((∑ j : Fin 512, y j * y j) * Ideal.ofBits .f32 0x3B000000#32
      + Ideal.ofBits .f32 0x358637BD#32) = (r : EReal) := by
  obtain ⟨e, he, hee⟩ := ofBits_eps
  rw [ofBits_512inv, hee]
  by_cases h : ∃ i, y i = ⊤ ∨ y i = ⊥
  · obtain ⟨i, hi⟩ := h
    have hii : y i * y i = ⊤ := by rcases hi with h | h <;> simp [h]
    have hs : ∑ j : Fin 512, y j * y j = ⊤ :=
      top_le_iff.mp (hii ▸ Finset.single_le_sum (f := fun j => y j * y j) (fun j _ => mul_self_nonneg' (y j)) (Finset.mem_univ i))
    refine ⟨0, by norm_num, ?_⟩
    rw [hs, EReal.top_mul_coe_of_pos (show (0 : ℝ) < 1 / 512 by norm_num), EReal.top_add_coe]
    show y j * 0 = _
    simp
  · have hr : ∀ i, ∃ r : ℝ, y i = (r : EReal) := fun i => by
      cases hv : y i with
      | bot => exact absurd ⟨i, Or.inr hv⟩ h
      | top => exact absurd ⟨i, Or.inl hv⟩ h
      | coe r => exact ⟨r, rfl⟩
    choose r hr using hr
    have hs : ∑ j : Fin 512, y j * y j = ((∑ j : Fin 512, r j * r j : ℝ) : EReal) := by
      rw [coe_sum]
      exact Finset.sum_congr rfl fun i _ => by rw [hr i, EReal.coe_mul]
    have hle : r j * r j ≤ ∑ j : Fin 512, r j * r j :=
      Finset.single_le_sum (f := fun j => r j * r j) (fun j _ => mul_self_nonneg (r j)) (Finset.mem_univ j)
    rw [hs, hr j, ← EReal.coe_mul, ← EReal.coe_add]
    set m : ℝ := (∑ j : Fin 512, r j * r j) * (1 / 512) + e with hm
    have h0 : 0 ≤ ∑ j : Fin 512, r j * r j := Finset.sum_nonneg fun j _ => mul_self_nonneg (r j)
    have hmp : 0 < m := by rw [hm]; positivity
    refine ⟨r j * (Real.sqrt m)⁻¹, ?_, ?_⟩
    · have hsq : 0 < Real.sqrt m := Real.sqrt_pos.mpr hmp
      rw [abs_mul, abs_of_pos (inv_pos.mpr hsq), ← div_eq_mul_inv, div_le_iff₀ hsq]
      refine abs_le_of_sq_le_sq ?_ (by positivity)
      rw [mul_pow, Real.sq_sqrt hmp.le]
      nlinarith
    · show ((r j : ℝ) : EReal) * (if m < 0 then ⊥ else if m = 0 then ⊤ else (((Real.sqrt m)⁻¹ : ℝ) : EReal)) = _
      rw [if_neg (not_lt.mpr hmp.le), if_neg hmp.ne', EReal.coe_mul]

/-- A row of the normalised latent has its threshold below `2 ^ 126`. -/
theorem thr_kcn (hΓ : ∀ j, max (Γ j) (-(Γ j)) ≤ ((2 ^ 128 : ℝ) : EReal)) (j : Fin 4) : thr (kcn x W Γ j) < pw 253 := by
  refine thr_lt (b := 32 * 2 ^ 128) (by norm_num) fun l => ?_
  obtain ⟨r, h1, h2⟩ := norm_bound (fun j => ky x W (lat j)) (cell j l)
  obtain ⟨g, h3, h4⟩ := real_of_abs_le (hΓ (cell j l))
  have e : kcn x W Γ j l = ((r * g : ℝ) : EReal) := by
    unfold kcn krs
    rw [h3, EReal.coe_mul]
    exact congrArg (· * (g : EReal)) h2
  have hb : |r * g| ≤ 32 * 2 ^ 128 := by rw [abs_mul]; gcongr
  rw [e, ← EReal.coe_neg]
  exact max_le (EReal.coe_le_coe_iff.mpr ((le_abs_self _).trans hb)) (EReal.coe_le_coe_iff.mpr ((neg_le_abs _).trans hb))

/-- The scales and codes of the latent agree. -/
theorem latent_eq (hx : ∀ k l, max (x k l) (-(x k l)) ≤ ((2 ^ 128 : ℝ) : EReal))
    (hΓ : ∀ j, max (Γ j) (-(Γ j)) ≤ ((2 ^ 128 : ℝ) : EReal)) (j : Fin 4) (l : Fin 128) :
    kscale (thr (kcn x W Γ j)) = rscale (thr (rcn x W Γ j))
      ∧ kcode (thr (kcn x W Γ j)) (kcn x W Γ j l) = rcode (thr (rcn x W Γ j)) (rcn x W Γ j l) := by
  have e : kcn x W Γ j = rcn x W Γ j := funext fun l => kcn_eq hx j l
  rw [← e]
  exact kcode_eq (thr_kcn hΓ j) _

end Agree

end Cert.Latent

end
-- ==== Proof.Bound.lean ====
module

public import proofs.«01_k».proof.Proof.Token
public import proofs.«01_k».proof.Pre_finite
public import Idealize.ShloMosaic.Lib.Pointwise

/-!
# What the precondition says

No activation is larger in magnitude than the largest finite bf16, no gain larger than the largest finite f32. Both are below 2^128.
-/

@[expose] public section

set_option maxRecDepth 16384

noncomputable section

namespace Cert.Pre_finite.Read

open Idealize.ShloMosaic Cert.Pre_finite

/-- The largest finite bf16 is below 2^128. -/
theorem ofBits_bf16_max : Ideal.ofBits .bf16 0x7F7F#16 ≤ ((2 ^ 128 : ℝ) : EReal) := by
  have h : Ideal.ofBits .bf16 0x7F7F#16 = ((255 * 2 ^ 120 : ℝ) : EReal) := by
    simp [Ideal.ofBits, Ideal.ieee, -EReal.coe_mul]
  rw [h]
  exact_mod_cast (by norm_num : (255 * 2 ^ 120 : ℝ) ≤ 2 ^ 128)

/-- The largest finite f32 is below 2^128. -/
theorem ofBits_f32_max : Ideal.ofBits .f32 0x7F7FFFFF#32 ≤ ((2 ^ 128 : ℝ) : EReal) := by
  have h : Ideal.ofBits .f32 0x7F7FFFFF#32 = ((16777215 * 2 ^ 104 : ℝ) : EReal) := by
    simp [Ideal.ofBits, Ideal.ieee, -EReal.coe_mul]
  rw [h]
  exact_mod_cast (by norm_num : (16777215 * 2 ^ 104 : ℝ) ≤ 2 ^ 128)

variable [Facts] {a0 : FVec Ideal S16x128x5120 .bf16} {a1 : FVec Ideal S576x5120 .fp8e4m3} {a2 : FVec Ideal S5x40 .f32} {a3 : FVec Ideal S512 .f32}

/-- A comparison that came out one holds. -/
theorem le_of_cmp {a b : EReal} (h : BitVec.ofBool (decide (a ≤ b)) = 1#1) : a ≤ b := by
  by_contra hn
  rw [decide_eq_false hn] at h
  exact absurd h (by decide)

/-- The precondition bounds every activation by 2^128. -/
theorem x_bound (h : (fn (F := Ideal) a0 a1 a2 a3).1 = fun _ => 1#1) (i : S16x128x5120.Idx) :
    max (a0 i) (-(a0 i)) ≤ ((2 ^ 128 : ℝ) : EReal) := by
  have hi := congrFun h i
  simp only [fn] at hi
  exact (le_of_cmp (a := max (a0 i) (-(a0 i))) (b := Ideal.ofBits .bf16 0x7F7F#16) hi).trans ofBits_bf16_max

/-- The precondition bounds every gain by 2^128. -/
theorem gamma_bound (h : (fn (F := Ideal) a0 a1 a2 a3).2 = fun _ => 1#1) (i : S512.Idx) :
    max (a3 i) (-(a3 i)) ≤ ((2 ^ 128 : ℝ) : EReal) := by
  have hi := congrFun h i
  simp only [fn] at hi
  exact (le_of_cmp (a := max (a3 i) (-(a3 i))) (b := Ideal.ofBits .f32 0x7F7FFFFF#32) hi).trans ofBits_f32_max

end Cert.Pre_finite.Read

end
-- ==== Proof.Pieces.lean ====
module

public import proofs.«01_k».proof.Proof.Gen.KernelIdeal.Value

@[expose] public section

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

/-! ## The scale of a vector of thresholds -/

/-- One step of the search for the exponent field: add `z` to `b` where the float of the sum stays at most `t`. -/
def vStep (s : Shape) (z : BitVec 32) (t : FVec F s .f32) (b : IVec s 32) : IVec s 32 :=
  select (cmpf .oge t (bitcastToFloat .f32 (addi b (broadcast s z)))) (addi b (broadcast s z)) b

/-- The exponent fields that eight steps of the search find. -/
def vBits (s : Shape) (t : FVec F s .f32) : IVec s 32 :=
  vStep s 8388608#32 t (vStep s 16777216#32 t (vStep s 33554432#32 t (vStep s 67108864#32 t (vStep s 134217728#32 t
    (vStep s 268435456#32 t (vStep s 536870912#32 t (vStep s 1073741824#32 t (broadcast s 0#32))))))))

/-- The bits of the scales, from the exponent fields. -/
def vWord (s : Shape) (b : IVec s 32) : IVec s 32 :=
  select (cmpi .slt b (broadcast s 8388608#32)) (broadcast s 1065353216#32)
    (addi (andi b (broadcast s 2139095040#32)) (broadcast s 8388608#32))

/-- The scales. -/
def vScale (s : Shape) (t : FVec F s .f32) : FVec F s .f32 := bitcastToFloat .f32 (vWord s (vBits s t))

/-- Their inverses. -/
def vInv (s : Shape) (t : FVec F s .f32) : FVec F s .f32 :=
  bitcastToFloat .f32 (subi (broadcast s 2130706432#32) (vWord s (vBits s t)))

/-! ## A block of 128 inputs of 256 tokens -/

/-- The block as loaded. -/
def bVal (v : Vec F S256x128 .bf16) : FVec F S256x128 .bf16 := shapeCast S256x128 v shapeCasts_S256x128_S256x128

/-- The threshold of each token: its largest magnitude over 448. -/
def bThr (v : Vec F S256x128 .bf16) : FVec F S256x1 .f32 :=
  mulf (extf .f32 (shapeCast S256x1 (multiReduction .maximumf [1] S256 (absf (bVal v)) 0xFF80#16 reduces_S256x128_S256 (.inr rfl) rfl) shapeCasts_S256_S256x1 : FVec F S256x1 .bf16) bitsLt_bf16_f32)
    (broadcast S256x1 (Scalar.ofBits .f32 0x3B124925#32))

/-- The scale of each token. -/
def bScale (v : Vec F S256x128 .bf16) : FVec F S256x1 .f32 := vScale S256x1 (bThr v)

/-- The codes. -/
def bCode (v : Vec F S256x128 .bf16) : FVec F S256x128 .fp8e4m3 :=
  truncf .fp8e4m3 (minimumf (broadcast S256x128 (Scalar.ofBits .bf16 0x43E0#16))
    (maximumf (broadcast S256x128 (Scalar.ofBits .bf16 0xC3E0#16))
      (mulf (bVal v) (broadcastTo S256x128 (truncf .bf16 (vInv S256x1 (bThr v)) bitsLt_bf16_f32 : FVec F S256x1 .bf16) broadcasts_S256x1_S256x128)))
    : FVec F S256x128 .bf16) bitsLt_fp8e4m3_bf16

/-- Codes times scale. -/
def bXw (v : Vec F S256x128 .bf16) : FVec F S256x128 .bf16 :=
  shapeCast S256x128 (mulf (extf .bf16 (bCode v) bitsLt_fp8e4m3_bf16 : FVec F S256x128 .bf16)
    (broadcastTo S256x128 (truncf .bf16 (bScale v) bitsLt_bf16_f32 : FVec F S256x1 .bf16) broadcasts_S256x1_S256x128)) shapeCasts_S256x128_S256x128

/-- The scales written into the lane of number `k`. -/
def bLane (k : BitVec 32) (v : Vec F S256x128 .bf16) (acc : FVec F S256x40 .f32) : FVec F S256x40 .f32 :=
  select (cmpi .eq (iota .tc S256x40 32 [1] iota_S256x40_d1_w32) (broadcast S256x40 k))
    (broadcastTo S256x40 (shapeCast S256x1 (bScale v) shapeCasts_S256x1_S256x1) broadcasts_S256x1_S256x40) acc

/-- The scales of 40 blocks, one lane for each. -/
def bLanes (v : Fin 40 → Vec F S256x128 .bf16) : FVec F S256x40 .f32 :=
  bLane 39#32 (v 39) (bLane 38#32 (v 38) (bLane 37#32 (v 37) (bLane 36#32 (v 36) (bLane 35#32 (v 35) (bLane 34#32 (v 34) (bLane 33#32 (v 33) (bLane 32#32 (v 32) (bLane 31#32 (v 31) (bLane 30#32 (v 30) (bLane 29#32 (v 29) (bLane 28#32 (v 28) (bLane 27#32 (v 27) (bLane 26#32 (v 26) (bLane 25#32 (v 25) (bLane 24#32 (v 24) (bLane 23#32 (v 23) (bLane 22#32 (v 22) (bLane 21#32 (v 21) (bLane 20#32 (v 20) (bLane 19#32 (v 19) (bLane 18#32 (v 18) (bLane 17#32 (v 17) (bLane 16#32 (v 16) (bLane 15#32 (v 15) (bLane 14#32 (v 14) (bLane 13#32 (v 13) (bLane 12#32 (v 12) (bLane 11#32 (v 11) (bLane 10#32 (v 10) (bLane 9#32 (v 9) (bLane 8#32 (v 8) (bLane 7#32 (v 7) (bLane 6#32 (v 6) (bLane 5#32 (v 5) (bLane 4#32 (v 4) (bLane 3#32 (v 3) (bLane 2#32 (v 2) (bLane 1#32 (v 1) (bLane 0#32 (v 0) (k0_pay255))))))))))))))))))))))))))))))))))))))))

/-! ## A block of 128 latent channels of 256 tokens -/

/-- The normalised latents of one block: channel by token, times the inverse root mean square, times gamma. -/
def lVal (o : Nat) (h : S512x256.Slices ![o, 0] S128x256) (ww : Vec F S576x5120 .bf16) (xw : Vec F S256x5120 .bf16) (g : Vec F S128x128 .f32) :
    FVec F S128x256 .f32 :=
  mulf (mulf (extractStridedSlice S128x256 ![o, 0] (k0_pay642 ww xw) h) (broadcastTo S128x256 (k0_pay643 ww xw) broadcasts_S1x256_S128x256))
    (concatenate S128x256 1 [⟨S128x128, g⟩, ⟨S128x128, g⟩] concatenates_S128x128_S128x128_S128x256_d1)

/-- The threshold of each token. -/
def lThr (v : FVec F S128x256 .f32) : FVec F S1x256 .f32 :=
  mulf (shapeCast S1x256 (multiReduction .maximumf [0] S256 (absf v) 0xFF800000#32 reduces_S128x256_S256 (.inl rfl) rfl) shapeCasts_S256_S1x256)
    (broadcast S1x256 (Scalar.ofBits .f32 0x3B124925#32))

/-- The scale of each token. -/
def lScale (v : FVec F S128x256 .f32) : FVec F S1x256 .f32 := vScale S1x256 (lThr v)

/-- The codes, token by channel. -/
def lCode (v : FVec F S128x256 .f32) : FVec F S256x128 .fp8e4m3 :=
  truncf .fp8e4m3 (transpose S256x128 [1, 0] (extf .bf16 (truncf .fp8e4m3 (minimumf (broadcast S128x256 (Scalar.ofBits .f32 0x43E00000#32))
      (maximumf (broadcast S128x256 (Scalar.ofBits .f32 0xC3E00000#32)) (mulf v (broadcastTo S128x256 (vInv S1x256 (lThr v)) broadcasts_S1x256_S128x256)))
    : FVec F S128x256 .f32) bitsLt_fp8e4m3_f32 : FVec F S128x256 .fp8e4m3) bitsLt_fp8e4m3_bf16 : FVec F S128x256 .bf16) transposes_S128x256_p1_0_S256x128) bitsLt_fp8e4m3_bf16

/-- The scales of the four blocks, token by block. -/
def lScales (s0 s1 s2 s3 : FVec F S1x256 .f32) : FVec F S256x4 .f32 :=
  extractStridedSlice S256x4 ![0, 0] (transpose S256x8 [1, 0] (concatenate S8x256 0
    [⟨S1x256, s0⟩, ⟨S1x256, s1⟩, ⟨S1x256, s2⟩, ⟨S1x256, s3⟩, ⟨S4x256, broadcast S4x256 (Scalar.ofBits .f32 0x00000000#32)⟩] concatenates_S1x256_S1x256_S1x256_S1x256_S4x256_S8x256_d0) transposes_S8x256_p1_0_S256x8)
    slices_S256x8_o0_0_S256x4

/-! ## What the body stores -/

/-- A list of 40 pieces, the last first. -/
def down40 {α : Type} (f : Fin 40 → α) : List α := [f 39, f 38, f 37, f 36, f 35, f 34, f 33, f 32, f 31, f 30, f 29, f 28, f 27, f 26, f 25, f 24, f 23, f 22, f 21, f 20, f 19, f 18, f 17, f 16, f 15, f 14, f 13, f 12, f 11, f 10, f 9, f 8, f 7, f 6, f 5, f 4, f 3, f 2, f 1, f 0]

/-- A member of the list of forty is one of the forty. -/
theorem mem_down40 {α : Type} {f : Fin 40 → α} {p : α} (h : p ∈ down40 f) : ∃ k, p = f k := by
  simp only [down40, List.mem_cons, List.not_mem_nil, or_false] at h
  rcases h with h | h | h | h | h | h | h | h | h | h | h | h | h | h | h | h | h | h | h | h | h | h | h | h | h | h | h | h | h | h | h | h | h | h | h | h | h | h | h | h <;> exact ⟨_, h⟩

/-- A block of columns lies in the tokens. -/
theorem xInb (k : Fin 40) : ∀ a, ![0, 128 * k.val] a + S256x128.size a ≤ S256x5120.size a := by
  intro a; fin_cases a
  · show 0 + 256 ≤ 256; omega
  · show 128 * k.val + 128 ≤ 5120; omega

/-- The rectangle of block `k` in an array of 256 tokens. -/
abbrev xRect (k : Fin 40) : Rect S256x5120 := Rect.unit ![0, 128 * k.val] S256x128.size (xInb k)

/-- A 128 x 128 block lies in the weights. -/
theorem wInb (o : Fin 4) (k : Fin 40) : ∀ a, ![128 * o.val, 128 * k.val] a + S128x128.size a ≤ S576x5120.size a := by
  intro a; fin_cases a
  · show 128 * o.val + 128 ≤ 576; omega
  · show 128 * k.val + 128 ≤ 5120; omega

/-- The rectangle of weight block `(o, k)`. -/
abbrev wRect (o : Fin 4) (k : Fin 40) : Rect S576x5120 := Rect.unit ![128 * o.val, 128 * k.val] S128x128.size (wInb o k)

/-- A 64 x 128 block lies in the weights. -/
theorem w4Inb (k : Fin 40) : ∀ a, ![512, 128 * k.val] a + S64x128.size a ≤ S576x5120.size a := by
  intro a; fin_cases a
  · show 512 + 64 ≤ 576; omega
  · show 128 * k.val + 128 ≤ 5120; omega

/-- The rectangle of weight block `(4, k)`, of 64 rows. -/
abbrev w4Rect (k : Fin 40) : Rect S576x5120 := Rect.unit ![512, 128 * k.val] S64x128.size (w4Inb k)

/-- A single scale lies in the scales. -/
theorem sInb (o : Fin 5) (k : Fin 40) : ∀ a, ![o.val, k.val] a + S1x1.size a ≤ S5x40.size a := by
  intro a; fin_cases a
  · show o.val + 1 ≤ 5; omega
  · show k.val + 1 ≤ 40; omega

/-- The rectangle of one weight scale. -/
abbrev sRect (o : Fin 5) (k : Fin 40) : Rect S5x40 := Rect.unit ![o.val, k.val] S1x1.size (sInb o k)

/-- A block of rows lies in the gains. -/
theorem gInb (j : Fin 4) : ∀ a, ![128 * j.val, 0] a + S128x128.size a ≤ S512x128.size a := by
  intro a; fin_cases a
  · show 128 * j.val + 128 ≤ 512; omega
  · show 0 + 128 ≤ 128; omega

/-- The rectangle of block `j` of the gamma column. -/
abbrev gRect (j : Fin 4) : Rect S512x128 := Rect.unit ![128 * j.val, 0] S128x128.size (gInb j)

/-- A block of columns lies in the latent codes. -/
theorem cInb (j : Fin 4) : ∀ a, ![0, 128 * j.val] a + S256x128.size a ≤ S256x512.size a := by
  intro a; fin_cases a
  · show 0 + 256 ≤ 256; omega
  · show 128 * j.val + 128 ≤ 512; omega

/-- The rectangle of block `j` of the latent codes. -/
abbrev cRect (j : Fin 4) : Rect S256x512 := Rect.unit ![0, 128 * j.val] S256x128.size (cInb j)

/-- Block `k` of the inputs, as loaded from memref `arg2` whose contents are `x1`. -/
def xBlk (arg2 : Memref sig .tc .vmem S256x5120 .bf16) (harg2 : arg2.IsWhole) (x1 : Vec F S256x5120 .bf16) (k : Fin 40) : Vec F S256x128 .bf16 :=
  View.readAt (Elt F) arg2.view (xRect k).toLoadRect (harg2.unread x1)

/-- The piece of the quantised inputs that block `k` stores. -/
def xPiece (arg2 : Memref sig .tc .vmem S256x5120 .bf16) (harg2 : arg2.IsWhole) (x1 : Vec F S256x5120 .bf16) (k : Fin 40) : View.Piece (Elt F) S256x5120 .bf16 :=
  ⟨xRect k, bXw (xBlk arg2 harg2 x1 k)⟩

/-- The piece of the codes that block `k` stores. -/
def cPiece (arg2 : Memref sig .tc .vmem S256x5120 .bf16) (harg2 : arg2.IsWhole) (x1 : Vec F S256x5120 .bf16) (k : Fin 40) : View.Piece (Elt F) S256x5120 .fp8e4m3 :=
  ⟨xRect k, bCode (xBlk arg2 harg2 x1 k)⟩

/-- The scale of weight block `(o, k)`, as loaded. -/
def sVal (arg1 : Memref sig .tc .smem S5x40 .f32) (harg1 : arg1.IsWhole) (x0 : Vec F S5x40 .f32) (o : Fin 5) (k : Fin 40) : Elt F .f32 :=
  View.readAt (Elt F) arg1.view (sRect o k).toLoadRect (harg1.unread x0) (Shape.Idx.first (by decide : 0 < S1x1.numel))

/-- The piece of the scaled weights that block `(o, k)` stores. -/
def wPiece (arg1 : Memref sig .tc .smem S5x40 .f32) (harg1 : arg1.IsWhole) (arg3 : Memref sig .tc .vmem S576x5120 .fp8e4m3) (harg3 : arg3.IsWhole)
    (x0 : Vec F S5x40 .f32) (x2 : Vec F S576x5120 .fp8e4m3) (o : Fin 4) (k : Fin 40) : View.Piece (Elt F) S576x5120 .bf16 :=
  ⟨wRect o k, k0_pay1 (sVal arg1 harg1 x0 (Fin.castSucc o) k) (View.readAt (Elt F) arg3.view (wRect o k).toLoadRect (harg3.unread x2))⟩

/-- The piece of the scaled weights that block `(4, k)` stores. -/
def w4Piece (arg1 : Memref sig .tc .smem S5x40 .f32) (harg1 : arg1.IsWhole) (arg3 : Memref sig .tc .vmem S576x5120 .fp8e4m3) (harg3 : arg3.IsWhole)
    (x0 : Vec F S5x40 .f32) (x2 : Vec F S576x5120 .fp8e4m3) (k : Fin 40) : View.Piece (Elt F) S576x5120 .bf16 :=
  ⟨w4Rect k, k0_pay240 (sVal arg1 harg1 x0 4 k) (View.readAt (Elt F) arg3.view (w4Rect k).toLoadRect (harg3.unread x2))⟩

/-- The pieces of the scaled weights, the last first. -/
def wPieces (arg1 : Memref sig .tc .smem S5x40 .f32) (harg1 : arg1.IsWhole) (arg3 : Memref sig .tc .vmem S576x5120 .fp8e4m3) (harg3 : arg3.IsWhole)
    (x0 : Vec F S5x40 .f32) (x2 : Vec F S576x5120 .fp8e4m3) : List (View.Piece (Elt F) S576x5120 .bf16) :=
  down40 (w4Piece arg1 harg1 arg3 harg3 x0 x2) ++ (down40 (wPiece arg1 harg1 arg3 harg3 x0 x2 3) ++ (down40 (wPiece arg1 harg1 arg3 harg3 x0 x2 2) ++
    (down40 (wPiece arg1 harg1 arg3 harg3 x0 x2 1) ++ down40 (wPiece arg1 harg1 arg3 harg3 x0 x2 0))))

/-- The rows of a latent block are a slice. -/
theorem gSlices (j : Fin 4) : S512x256.Slices ![128 * j.val, 0] S128x256 := by fin_cases j <;> decide

/-- Block `j` of the normalised latents. -/
def lBlk (ww : Vec F S576x5120 .bf16) (xw : Vec F S256x5120 .bf16) (g : Fin 4 → Vec F S128x128 .f32) (j : Fin 4) : FVec F S128x256 .f32 :=
  lVal (128 * j.val) (gSlices j) ww xw (g j)

/-- The pieces of the latent codes. -/
def lPieces (ww : Vec F S576x5120 .bf16) (xw : Vec F S256x5120 .bf16) (g : Fin 4 → Vec F S128x128 .f32) : List (View.Piece (Elt F) S256x512 .fp8e4m3) :=
  [⟨cRect 3, lCode (lBlk ww xw g 3)⟩, ⟨cRect 2, lCode (lBlk ww xw g 2)⟩, ⟨cRect 1, lCode (lBlk ww xw g 1)⟩, ⟨cRect 0, lCode (lBlk ww xw g 0)⟩]

/-- The one piece of the latent scales. -/
def lsPieces (ww : Vec F S576x5120 .bf16) (xw : Vec F S256x5120 .bf16) (g : Fin 4 → Vec F S128x128 .f32) : List (View.Piece (Elt F) S256x4 .f32) :=
  [⟨Rect.unit ![0, 0] S256x4.size inb_S256x4_S256x4_0_0, lScales (lScale (lBlk ww xw g 0)) (lScale (lBlk ww xw g 1)) (lScale (lBlk ww xw g 2)) (lScale (lBlk ww xw g 3))⟩]

/-- The one piece of the positional keys. -/
def pPieces (ww : Vec F S576x5120 .bf16) (xw : Vec F S256x5120 .bf16) : List (View.Piece (Elt F) S256x64 .bf16) :=
  [⟨Rect.unit ![0, 0] S256x64.size inb_S256x64_S256x64_0_0, k0_pay673 (k0_pay641 ww xw)⟩]

/-- The one piece of the input scales. -/
def sPieces (v : Fin 40 → Vec F S256x128 .bf16) : List (View.Piece (Elt F) S256x40 .f32) :=
  [⟨Rect.unit ![0, 0] S256x40.size inb_S256x40_S256x40_0_0, bLanes v⟩]

/-- The one piece of the gamma column. -/
def gPieces (arg4 : Memref sig .tc .vmem S1x512 .f32) (harg4 : arg4.IsWhole) (x3 : Vec F S1x512 .f32) : List (View.Piece (Elt F) S512x128 .f32) :=
  [⟨Rect.unit ![0, 0] S512x128.size inb_S512x128_S512x128_0_0,
    k0_pay254 (View.readAt (Elt F) arg4.view (Rect.unit ![0, 0] S1x512.size inb_S1x512_S1x512_0_0).toLoadRect (harg4.unread x3))⟩]

/-- The quantised inputs as loaded back from the scratch that the pieces were stored in. -/
def xwBack (arg2 : Memref sig .tc .vmem S256x5120 .bf16) (harg2 : arg2.IsWhole) (arg11 : Memref sig .tc .vmem S256x5120 .bf16) (x1 : Vec F S256x5120 .bf16) : Vec F S256x5120 .bf16 :=
  arg11.view.readCov (down40 (xPiece arg2 harg2 x1)) (Rect.unit ![0, 0] S256x5120.size inb_S256x5120_S256x5120_0_0).toLoadRect

/-- The scaled weights as loaded back at a point that stored them. -/
def wwBackA (arg1 : Memref sig .tc .smem S5x40 .f32) (harg1 : arg1.IsWhole) (arg3 : Memref sig .tc .vmem S576x5120 .fp8e4m3) (harg3 : arg3.IsWhole)
    (arg10 : Memref sig .tc .vmem S576x5120 .bf16) (x0 : Vec F S5x40 .f32) (x2 : Vec F S576x5120 .fp8e4m3) : Vec F S576x5120 .bf16 :=
  arg10.view.readCov (wPieces arg1 harg1 arg3 harg3 x0 x2) (Rect.unit ![0, 0] S576x5120.size inb_S576x5120_S576x5120_0_0).toLoadRect

/-- The scaled weights as loaded at a point that found `xs0` in their scratch. -/
def wwBackB (arg10 : Memref sig .tc .vmem S576x5120 .bf16) (harg10 : arg10.IsWhole) (xs0 : Vec F S576x5120 .bf16) : Vec F S576x5120 .bf16 :=
  View.readAt (Elt F) arg10.view (Rect.unit ![0, 0] S576x5120.size inb_S576x5120_S576x5120_0_0).toLoadRect (harg10.unread xs0)

/-- Block `j` of the gamma column as loaded back at a point that stored the column. -/
def gBackA (arg4 : Memref sig .tc .vmem S1x512 .f32) (harg4 : arg4.IsWhole) (arg12 : Memref sig .tc .vmem S512x128 .f32) (x3 : Vec F S1x512 .f32) (j : Fin 4) :
    Vec F S128x128 .f32 :=
  arg12.view.readCov (gPieces arg4 harg4 x3) (gRect j).toLoadRect

/-- Block `j` of the gamma column as loaded at a point that found `xs2` in its scratch. -/
def gBackB (arg12 : Memref sig .tc .vmem S512x128 .f32) (harg12 : arg12.IsWhole) (xs2 : Vec F S512x128 .f32) (j : Fin 4) : Vec F S128x128 .f32 :=
  View.readAt (Elt F) arg12.view (gRect j).toLoadRect (harg12.unread xs2)

set_option maxRecDepth 16384

/-- The list of stores into the scratch of dequantised tokens at a later grid point. -/
theorem run_LT_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).2.2.2.2.2.2.2.1 = down40 (xPiece arg2 harg2 x1) := rfl

/-- The list of stores into the codes of the inputs at a later grid point. -/
theorem run_L7_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).2.2.2.1 = down40 (cPiece arg2 harg2 x1) := rfl

/-- The list of stores into the scales of the inputs at a later grid point. -/
theorem run_L8_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).2.2.2.2.1 = sPieces (xBlk arg2 harg2 x1) := rfl

/-- The list of stores into the positional keys at a later grid point. -/
theorem run_L6_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).2.2.1 = pPieces (wwBackB arg10 harg10 xs0) (xwBack arg2 harg2 arg11 x1) := rfl

/-- The list of stores into the latent scales at a later grid point. -/
theorem run_L5_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).2.1 = lsPieces (wwBackB arg10 harg10 xs0) (xwBack arg2 harg2 arg11 x1) (gBackB arg12 harg12 xs2) := rfl

/-- The list of stores into the latent codes at a later grid point. -/
theorem run_L4_B (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec F S5x40 .f32) (x1 : Vec F S256x5120 .bf16) (x2 : Vec F S576x5120 .fp8e4m3) (x3 : Vec F S1x512 .f32) (xs0 : Vec F S576x5120 .bf16) (xs2 : Vec F S512x128 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 xs0 xs2).1 = lPieces (wwBackB arg10 harg10 xs0) (xwBack arg2 harg2 arg11 x1) (gBackB arg12 harg12 xs2) := rfl

/-- The list of stores into the scratch of dequantised weights at the first grid point. -/
theorem run_LS0_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.1 = wPieces arg1 harg1 arg3 harg3 x0 x2 := rfl

/-- The list of stores into the scratch of gains at the first grid point. -/
theorem run_LS2_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.1 = gPieces arg4 harg4 x3 := rfl

/-- The list of stores into the scratch of dequantised tokens at the first grid point. -/
theorem run_LT_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.2.1 = down40 (xPiece arg2 harg2 x1) := rfl

/-- The list of stores into the codes of the inputs at the first grid point. -/
theorem run_L7_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.2.1 = down40 (cPiece arg2 harg2 x1) := rfl

/-- The list of stores into the scales of the inputs at the first grid point. -/
theorem run_L8_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.2.2.1 = sPieces (xBlk arg2 harg2 x1) := rfl

/-- The list of stores into the positional keys at the first grid point. -/
theorem run_L6_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.2.1 = pPieces (wwBackA arg1 harg1 arg3 harg3 arg10 x0 x2) (xwBack arg2 harg2 arg11 x1) := rfl

/-- The list of stores into the latent scales at the first grid point. -/
theorem run_L5_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).2.1 = lsPieces (wwBackA arg1 harg1 arg3 harg3 arg10 x0 x2) (xwBack arg2 harg2 arg11 x1) (gBackA arg4 harg4 arg12 x3) := rfl

/-- The list of stores into the latent codes at the first grid point. -/
theorem run_L4_A (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec F S5x40 .f32) (x1 : Vec F S256x5120 .bf16) (x2 : Vec F S576x5120 .fp8e4m3) (x3 : Vec F S1x512 .f32) : (kernelRun0_A c i arg1 harg1 arg2 harg2 arg3 harg3 arg4 harg4 arg5 harg5 arg6 harg6 arg7 harg7 arg8 harg8 arg9 harg9 arg10 harg10 arg11 harg11 arg12 harg12 hc0 x0 x1 x2 x3).1 = lPieces (wwBackA arg1 harg1 arg3 harg3 arg10 x0 x2) (xwBack arg2 harg2 arg11 x1) (gBackA arg4 harg4 arg12 x3) := rfl

end Cert.KernelIdeal.Gen

end
-- ==== Proof.KerRead.lean ====
module

public import proofs.«01_k».proof.Proof.Pieces
public import proofs.«01_k».proof.Proof.Token
public import Idealize.ShloMosaic.Lib.Pointwise

@[expose] public section

set_option maxRecDepth 16384

noncomputable section

namespace Cert.KernelIdeal.Read

open Idealize.ShloMosaic Cert.KernelIdeal Cert.KernelIdeal.Gen Cert.Latent

/-! ### Scales of a vector of thresholds -/

/-- One step of the exponent search, element by element. -/
theorem vStep_apply (s : Shape) (z : BitVec 32) (t : FVec Ideal s .f32) (b : IVec s 32) (i : s.Idx) :
    vStep s z t b i = step (t i) z (b i) := id rfl

/-- The exponent search, element by element. -/
theorem vBits_apply (s : Shape) (t : FVec Ideal s .f32) (i : s.Idx) : vBits s t i = search2 (t i) (search6 (t i)) := by
  unfold vBits search2 search6
  simp only [vStep_apply]
  rfl

/-- The bits of the scale, element by element. -/
theorem vWord_apply (s : Shape) (b : IVec s 32) (i : s.Idx) : vWord s b i = scaleWord (b i) := id rfl

/-- The scale, element by element. -/
theorem vScale_apply (s : Shape) (t : FVec Ideal s .f32) (i : s.Idx) : vScale s t i = kscale (t i) := by
  have e : vScale s t i = Ideal.ofBits .f32 (vWord s (vBits s t) i) := rfl
  rw [e, vWord_apply, vBits_apply]
  rfl

/-- The inverse scale, element by element. -/
theorem vInv_apply (s : Shape) (t : FVec Ideal s .f32) (i : s.Idx) : vInv s t i = kinv (t i) := by
  have e : vInv s t i = Ideal.ofBits .f32 (IntOp.subi 2130706432#32 (vWord s (vBits s t) i)) := rfl
  rw [e, vWord_apply, vBits_apply]
  rfl

/-! ### A block of inputs -/

/-- The row of token `p` in a block. -/
def row (v : S256x128.Idx → EReal) (p : Fin 256) : Fin 128 → EReal := fun l => v (ix2 p l)

/-- The bf16 word of minus infinity. -/
theorem ofBits_neg_inf_bf16 : Ideal.ofBits .bf16 0xFF80#16 = ⊥ := by
  simp [Ideal.ofBits, Ideal.ieee]

/-- The f32 word of minus infinity. -/
theorem ofBits_neg_inf : Ideal.ofBits .f32 0xFF800000#32 = ⊥ := by
  simp [Ideal.ofBits, Ideal.ieee]

/-- A reshape to the same shape changes nothing. -/
theorem bVal_eq (v : Vec Ideal S256x128 .bf16) : bVal v = v := shapeCast_id _ _

/-- The largest magnitude of a row of a block. -/
theorem bMax_apply (v : FVec Ideal S256x128 .bf16) (p : Fin 256) (u : Fin 1) :
    shapeCast S256x1 (multiReduction .maximumf [1] S256 v 0xFF80#16 reduces_S256x128_S256 (.inr rfl) rfl) shapeCasts_S256_S256x1 (ix2 p u)
    = Finset.univ.fold max (Ideal.ofBits .bf16 0xFF80#16) fun x => v (ix2 p x) := by
  pointwise

/-- Widening to f32 changes no value. -/
theorem ext_apply (v : FVec Ideal S256x1 .bf16) (i : S256x1.Idx) : (extf .f32 v bitsLt_bf16_f32 : FVec Ideal S256x1 .f32) i = v i := rfl

/-- The threshold of a row of a block. -/
theorem bThr_apply (v : Vec Ideal S256x128 .bf16) (p : Fin 256) (u : Fin 1) : bThr v (ix2 p u) = thr (row v p) := by
  unfold bThr thr
  rw [mulf_apply, ext_apply, bMax_apply, ofBits_neg_inf_bf16, bVal_eq]
  rfl

/-- The scale of a row of a block. -/
theorem bScale_apply (v : Vec Ideal S256x128 .bf16) (p : Fin 256) (u : Fin 1) : bScale v (ix2 p u) = kscale (thr (row v p)) := by
  unfold bScale
  rw [vScale_apply, bThr_apply]

/-- The codes from the inverse scales. -/
def bClip (v : FVec Ideal S256x128 .bf16) (s : FVec Ideal S256x1 .f32) : FVec Ideal S256x128 .bf16 :=
  minimumf (broadcast S256x128 (Scalar.ofBits .bf16 0x43E0#16))
    (maximumf (broadcast S256x128 (Scalar.ofBits .bf16 0xC3E0#16))
      (mulf v (broadcastTo S256x128 (truncf .bf16 s bitsLt_bf16_f32 : FVec Ideal S256x1 .bf16) broadcasts_S256x1_S256x128)))

/-- Scaling and clipping, element by element. -/
theorem bClip_apply (v : FVec Ideal S256x128 .bf16) (s : FVec Ideal S256x1 .f32) (p : Fin 256) (l : Fin 128) :
    bClip v s (ix2 p l) = min (Ideal.ofBits .bf16 0x43E0#16) (max (Ideal.ofBits .bf16 0xC3E0#16) (v (ix2 p l) * s (ix2 p 0))) := by
  pointwise [bClip]

theorem bCode_eq (v : Vec Ideal S256x128 .bf16) : bCode v = bClip (bVal v) (vInv S256x1 (bThr v)) := rfl

/-- The code of an element of a block. -/
theorem bCode_apply (v : Vec Ideal S256x128 .bf16) (p : Fin 256) (l : Fin 128) :
    bCode v (ix2 p l) = kcode (thr (row v p)) (v (ix2 p l)) := by
  rw [bCode_eq, bClip_apply, vInv_apply, bThr_apply, bVal_eq, ← ofBits_448, ← ofBits_neg448]
  rfl

/-- Codes times scales. -/
def bWide (c : FVec Ideal S256x128 .fp8e4m3) (s : FVec Ideal S256x1 .f32) : FVec Ideal S256x128 .bf16 :=
  shapeCast S256x128 (mulf (extf .bf16 c bitsLt_fp8e4m3_bf16 : FVec Ideal S256x128 .bf16)
    (broadcastTo S256x128 (truncf .bf16 s bitsLt_bf16_f32 : FVec Ideal S256x1 .bf16) broadcasts_S256x1_S256x128)) shapeCasts_S256x128_S256x128

/-- Code times scale, element by element. -/
theorem bWide_apply (c : FVec Ideal S256x128 .fp8e4m3) (s : FVec Ideal S256x1 .f32) (p : Fin 256) (l : Fin 128) :
    bWide c s (ix2 p l) = c (ix2 p l) * s (ix2 p 0) := by
  pointwise [bWide]

theorem bXw_eq (v : Vec Ideal S256x128 .bf16) : bXw v = bWide (bCode v) (bScale v) := rfl

/-- The dequantised element of a block. -/
theorem bXw_apply (v : Vec Ideal S256x128 .bf16) (p : Fin 256) (l : Fin 128) :
    bXw v (ix2 p l) = kcode (thr (row v p)) (v (ix2 p l)) * kscale (thr (row v p)) := by
  rw [bXw_eq, bWide_apply, bCode_apply, bScale_apply]

/-- Lane `k` of a vector whose lane number `w` was written over. -/
theorem bLane_apply (w : BitVec 32) (v : Vec Ideal S256x128 .bf16) (acc : FVec Ideal S256x40 .f32) (p : Fin 256) (k : Fin 40) :
    bLane w v acc (ix2 p k) = if BitVec.ofNat 32 k.val = w then bScale v (ix2 p 0) else acc (ix2 p k) := by
  have e : bLane w v acc (ix2 p k) = Scalar.select (IntOp.cmpi .eq (BitVec.ofNat 32 k.val) w) (bScale v (ix2 p 0)) (acc (ix2 p k)) := by
    unfold bLane
    generalize bScale v = s
    pointwise
  rw [e]
  by_cases h : BitVec.ofNat 32 k.val = w
  · simp [Scalar.select, IntOp.cmpi, h]
  · have hb : (BitVec.ofNat 32 k.val == w) = false := by simpa using h
    simp only [Scalar.select, IntOp.cmpi, hb, if_neg h]
    rfl

/-- The chain of selections by lane number picks the lane's own value. -/
theorem pick (a : Fin 40 → EReal) (z : EReal) (k : Fin 40) : (if BitVec.ofNat 32 k.val = 39#32 then a 39 else (if BitVec.ofNat 32 k.val = 38#32 then a 38 else (if BitVec.ofNat 32 k.val = 37#32 then a 37 else (if BitVec.ofNat 32 k.val = 36#32 then a 36 else (if BitVec.ofNat 32 k.val = 35#32 then a 35 else (if BitVec.ofNat 32 k.val = 34#32 then a 34 else (if BitVec.ofNat 32 k.val = 33#32 then a 33 else (if BitVec.ofNat 32 k.val = 32#32 then a 32 else (if BitVec.ofNat 32 k.val = 31#32 then a 31 else (if BitVec.ofNat 32 k.val = 30#32 then a 30 else (if BitVec.ofNat 32 k.val = 29#32 then a 29 else (if BitVec.ofNat 32 k.val = 28#32 then a 28 else (if BitVec.ofNat 32 k.val = 27#32 then a 27 else (if BitVec.ofNat 32 k.val = 26#32 then a 26 else (if BitVec.ofNat 32 k.val = 25#32 then a 25 else (if BitVec.ofNat 32 k.val = 24#32 then a 24 else (if BitVec.ofNat 32 k.val = 23#32 then a 23 else (if BitVec.ofNat 32 k.val = 22#32 then a 22 else (if BitVec.ofNat 32 k.val = 21#32 then a 21 else (if BitVec.ofNat 32 k.val = 20#32 then a 20 else (if BitVec.ofNat 32 k.val = 19#32 then a 19 else (if BitVec.ofNat 32 k.val = 18#32 then a 18 else (if BitVec.ofNat 32 k.val = 17#32 then a 17 else (if BitVec.ofNat 32 k.val = 16#32 then a 16 else (if BitVec.ofNat 32 k.val = 15#32 then a 15 else (if BitVec.ofNat 32 k.val = 14#32 then a 14 else (if BitVec.ofNat 32 k.val = 13#32 then a 13 else (if BitVec.ofNat 32 k.val = 12#32 then a 12 else (if BitVec.ofNat 32 k.val = 11#32 then a 11 else (if BitVec.ofNat 32 k.val = 10#32 then a 10 else (if BitVec.ofNat 32 k.val = 9#32 then a 9 else (if BitVec.ofNat 32 k.val = 8#32 then a 8 else (if BitVec.ofNat 32 k.val = 7#32 then a 7 else (if BitVec.ofNat 32 k.val = 6#32 then a 6 else (if BitVec.ofNat 32 k.val = 5#32 then a 5 else (if BitVec.ofNat 32 k.val = 4#32 then a 4 else (if BitVec.ofNat 32 k.val = 3#32 then a 3 else (if BitVec.ofNat 32 k.val = 2#32 then a 2 else (if BitVec.ofNat 32 k.val = 1#32 then a 1 else (if BitVec.ofNat 32 k.val = 0#32 then a 0 else (z))))))))))))))))))))))))))))))))))))))))) = a k := by
  fin_cases k <;> rfl

/-- The array of scales holds block k's scale in column k. -/
theorem bLanes_apply (v : Fin 40 → Vec Ideal S256x128 .bf16) (p : Fin 256) (k : Fin 40) :
    bLanes v (ix2 p k) = kscale (thr (row (v k) p)) := by
  rw [← bScale_apply (v k) p 0]
  unfold bLanes
  simp only [bLane_apply]
  exact pick (fun k => bScale (v k) (ix2 p 0)) _ k

/-! ### The projection and the latents -/

/-- The product, element by element: a sum over the columns. -/
theorem pay641_apply (ww : Vec Ideal S576x5120 .bf16) (xw : Vec Ideal S256x5120 .bf16) (o : Fin 576) (p : Fin 256) :
    k0_pay641 ww xw (ix2 o p) = ∑ c, ww (ix2 o c) * xw (ix2 p c) := by
  pointwise [k0_pay641]

/-- The latent part of the product. -/
theorem pay642_apply (ww : Vec Ideal S576x5120 .bf16) (xw : Vec Ideal S256x5120 .bf16) (j : Fin 512) (p : Fin 256) :
    k0_pay642 ww xw (ix2 j p) = k0_pay641 ww xw (ix2 (lat j) p) := by
  unfold k0_pay642
  generalize k0_pay641 ww xw = y
  pointwise [lat]

/-- The inverse root mean square of each token, from its latents. -/
def lNorm (c : FVec Ideal S512x256 .f32) : FVec Ideal S1x256 .f32 :=
  rsqrt (addf (mulf (shapeCast S1x256 (multiReduction .add [0] S256 (mulf c c) 0x00000000#32 reduces_S512x256_S256 (.inl rfl) rfl) shapeCasts_S256_S1x256)
    (broadcast S1x256 (Scalar.ofBits .f32 0x3B000000#32))) (broadcast S1x256 (Scalar.ofBits .f32 0x358637BD#32)))

/-- The reciprocal root of a token's mean square. -/
theorem lNorm_apply (c : FVec Ideal S512x256 .f32) (u : Fin 1) (p : Fin 256) :
    lNorm c (ix2 u p) = Ideal.rsqrt ((∑ j, c (ix2 j p) * c (ix2 j p)) * Ideal.ofBits .f32 0x3B000000#32 + Ideal.ofBits .f32 0x358637BD#32) := by
  pointwise [lNorm]

theorem pay643_eq (ww : Vec Ideal S576x5120 .bf16) (xw : Vec Ideal S256x5120 .bf16) : k0_pay643 ww xw = lNorm (k0_pay642 ww xw) := rfl

/-- The positional part of the product, transposed. -/
theorem pay673_apply (y : FVec Ideal S576x256 .f32) (p : Fin 256) (q : Fin 64) :
    k0_pay673 y (ix2 p q) = y (ix2 (pos q) p) := by
  pointwise [k0_pay673, pos]

/-- The gains repeated along the lanes. -/
theorem pay254_apply (g : Vec Ideal S1x512 .f32) (j : Fin 512) (q : Fin 128) : k0_pay254 g (ix2 j q) = g (ix2 0 j) := by
  pointwise [k0_pay254]

/-- A dequantised block of 128 x 128 weights. -/
theorem pay1_apply (s : EReal) (w : Vec Ideal S128x128 .fp8e4m3) (a b : Fin 128) :
    k0_pay1 (F := Ideal) s w (ix2 a b) = w (ix2 a b) * s := by
  pointwise [k0_pay1]

/-- A dequantised block of 64 x 128 weights. -/
theorem pay240_apply (s : EReal) (w : Vec Ideal S64x128 .fp8e4m3) (a : Fin 64) (b : Fin 128) :
    k0_pay240 (F := Ideal) s w (ix2 a b) = w (ix2 a b) * s := by
  pointwise [k0_pay240]

/-- The gamma column twice, at channel `l` and token `p`. -/
theorem twice_apply (g : Vec Ideal S128x128 .f32) (l : Fin 128) (p : Fin 256) :
    concatenate S128x256 1 [⟨S128x128, g⟩, ⟨S128x128, g⟩] concatenates_S128x128_S128x128_S128x256_d1 (ix2 l p)
      = g (ix2 l ⟨p.val % 128, by omega⟩) := by
  pointwise
  split <;> (congr 2; apply Fin.ext; simp only []; omega)

/-- The rows of latent block j. -/
theorem slice_apply (c : FVec Ideal S512x256 .f32) (j : Fin 4) (l : Fin 128) (p : Fin 256) :
    extractStridedSlice S128x256 ![128 * j.val, 0] c (gSlices j) (ix2 l p) = c (ix2 (cell j l) p) := by
  fin_cases j <;> pointwise [cell]

/-- A row repeated down a block. -/
theorem bc_apply (r : FVec Ideal S1x256 .f32) (l : Fin 128) (p : Fin 256) :
    broadcastTo S128x256 r broadcasts_S1x256_S128x256 (ix2 l p) = r (ix2 0 p) := by
  pointwise

/-- Latents times inverse root mean square times gamma, of the 128 rows of block `j`. -/
theorem lBlk_apply (ww : Vec Ideal S576x5120 .bf16) (xw : Vec Ideal S256x5120 .bf16) (g : Fin 4 → Vec Ideal S128x128 .f32) (j : Fin 4)
    (l : Fin 128) (p : Fin 256) :
    lBlk ww xw g j (ix2 l p) = k0_pay642 ww xw (ix2 (cell j l) p) * k0_pay643 ww xw (ix2 0 p) * g j (ix2 l ⟨p.val % 128, by omega⟩) := by
  unfold lBlk lVal
  rw [mulf_apply, mulf_apply, slice_apply, bc_apply, twice_apply]
  rfl

/-- The column of token `p` in a block of latents. -/
def col (v : S128x256.Idx → EReal) (p : Fin 256) : Fin 128 → EReal := fun l => v (ix2 l p)

/-- The largest magnitude of a column of a latent block. -/
theorem lMax_apply (v : FVec Ideal S128x256 .f32) (u : Fin 1) (p : Fin 256) :
    shapeCast S1x256 (multiReduction .maximumf [0] S256 v 0xFF800000#32 reduces_S128x256_S256 (.inl rfl) rfl) shapeCasts_S256_S1x256 (ix2 u p)
    = Finset.univ.fold max (Ideal.ofBits .f32 0xFF800000#32) fun x => v (ix2 x p) := by
  pointwise

/-- The threshold of a column of a latent block. -/
theorem lThr_apply (v : FVec Ideal S128x256 .f32) (u : Fin 1) (p : Fin 256) : lThr v (ix2 u p) = thr (col v p) := by
  unfold lThr thr
  rw [mulf_apply, lMax_apply, ofBits_neg_inf]
  rfl

/-- The scale of a column of a latent block. -/
theorem lScale_apply (v : FVec Ideal S128x256 .f32) (u : Fin 1) (p : Fin 256) : lScale v (ix2 u p) = kscale (thr (col v p)) := by
  unfold lScale
  rw [vScale_apply, lThr_apply]

/-- The latent codes from the inverse scales. -/
def lClip (v : FVec Ideal S128x256 .f32) (s : FVec Ideal S1x256 .f32) : FVec Ideal S256x128 .fp8e4m3 :=
  truncf .fp8e4m3 (transpose S256x128 [1, 0] (extf .bf16 (truncf .fp8e4m3 (minimumf (broadcast S128x256 (Scalar.ofBits .f32 0x43E00000#32))
      (maximumf (broadcast S128x256 (Scalar.ofBits .f32 0xC3E00000#32)) (mulf v (broadcastTo S128x256 s broadcasts_S1x256_S128x256)))
    : FVec Ideal S128x256 .f32) bitsLt_fp8e4m3_f32 : FVec Ideal S128x256 .fp8e4m3) bitsLt_fp8e4m3_bf16 : FVec Ideal S128x256 .bf16) transposes_S128x256_p1_0_S256x128) bitsLt_fp8e4m3_bf16

/-- Scaling and clipping of the latent, element by element. -/
theorem lClip_apply (v : FVec Ideal S128x256 .f32) (s : FVec Ideal S1x256 .f32) (p : Fin 256) (l : Fin 128) :
    lClip v s (ix2 p l) = min (Ideal.ofBits .f32 0x43E00000#32) (max (Ideal.ofBits .f32 0xC3E00000#32) (v (ix2 l p) * s (ix2 0 p))) := by
  pointwise [lClip]

theorem lCode_eq (v : FVec Ideal S128x256 .f32) : lCode v = lClip v (vInv S1x256 (lThr v)) := rfl

/-- The code of an element of the latent. -/
theorem lCode_apply (v : FVec Ideal S128x256 .f32) (p : Fin 256) (l : Fin 128) :
    lCode v (ix2 p l) = kcode (thr (col v p)) (v (ix2 l p)) := by
  rw [lCode_eq, lClip_apply, vInv_apply, lThr_apply]
  rfl

/-- The array of latent scales, transposed, holds block j's scale in column j. -/
theorem lScales_apply (s : Fin 4 → FVec Ideal S1x256 .f32) (p : Fin 256) (j : Fin 4) :
    lScales (s 0) (s 1) (s 2) (s 3) (ix2 p j) = s j (ix2 0 p) := by
  generalize h0 : s 0 = s0
  generalize h1 : s 1 = s1
  generalize h2 : s 2 = s2
  generalize h3 : s 3 = s3
  fin_cases j
  · show _ = s 0 _
    rw [h0]; pointwise [lScales]
  · show _ = s 1 _
    rw [h1]; pointwise [lScales]
  · show _ = s 2 _
    rw [h2]; pointwise [lScales]
  · show _ = s 3 _
    rw [h3]; pointwise [lScales]

/-! ### The latents from the quantised inputs and the scaled weights -/

section Token

variable {ww : Vec Ideal S576x5120 .bf16} {xw : Vec Ideal S256x5120 .bf16} {g : Fin 4 → Vec Ideal S128x128 .f32}
  {x : Fin 256 → Fin 40 → Fin 128 → EReal} {W : Fin 576 → Fin 5120 → EReal} {Γ : Fin 512 → EReal}

/-- The product in terms of the token. -/
theorem y_apply (hx : ∀ p c, xw (ix2 p c) = kxw (x p) c) (hw : ∀ o c, ww (ix2 o c) = W o c) (o : Fin 576) (p : Fin 256) :
    k0_pay641 ww xw (ix2 o p) = ky (x p) W o := by
  rw [pay641_apply]
  exact Finset.sum_congr rfl fun c _ => by rw [hx, hw]

/-- The reciprocal root in terms of the token. -/
theorem norm_apply (hx : ∀ p c, xw (ix2 p c) = kxw (x p) c) (hw : ∀ o c, ww (ix2 o c) = W o c) (p : Fin 256) :
    k0_pay643 ww xw (ix2 0 p) = krs (x p) W := by
  rw [pay643_eq, lNorm_apply]
  simp only [pay642_apply, y_apply hx hw]
  rfl

/-- The normed latent in terms of the token. -/
theorem lBlk_token (hx : ∀ p c, xw (ix2 p c) = kxw (x p) c) (hw : ∀ o c, ww (ix2 o c) = W o c)
    (hg : ∀ j l q, g j (ix2 l q) = Γ (cell j l)) (j : Fin 4) (l : Fin 128) (p : Fin 256) :
    lBlk ww xw g j (ix2 l p) = kcn (x p) W Γ j l := by
  rw [lBlk_apply, pay642_apply, y_apply hx hw, norm_apply hx hw, hg]
  rfl

/-- A column of a latent block in terms of the token. -/
theorem col_token (hx : ∀ p c, xw (ix2 p c) = kxw (x p) c) (hw : ∀ o c, ww (ix2 o c) = W o c)
    (hg : ∀ j l q, g j (ix2 l q) = Γ (cell j l)) (j : Fin 4) (p : Fin 256) :
    col (lBlk ww xw g j) p = kcn (x p) W Γ j :=
  funext fun l => lBlk_token hx hw hg j l p

/-- The latent's codes in terms of the token. -/
theorem lCode_token (hx : ∀ p c, xw (ix2 p c) = kxw (x p) c) (hw : ∀ o c, ww (ix2 o c) = W o c)
    (hg : ∀ j l q, g j (ix2 l q) = Γ (cell j l)) (j : Fin 4) (l : Fin 128) (p : Fin 256) :
    lCode (lBlk ww xw g j) (ix2 p l) = kcode (thr (kcn (x p) W Γ j)) (kcn (x p) W Γ j l) := by
  rw [lCode_apply, col_token hx hw hg, lBlk_token hx hw hg]

/-- The latent's scales in terms of the token. -/
theorem lScales_token (hx : ∀ p c, xw (ix2 p c) = kxw (x p) c) (hw : ∀ o c, ww (ix2 o c) = W o c)
    (hg : ∀ j l q, g j (ix2 l q) = Γ (cell j l)) (j : Fin 4) (p : Fin 256) :
    lScales (lScale (lBlk ww xw g 0)) (lScale (lBlk ww xw g 1)) (lScale (lBlk ww xw g 2)) (lScale (lBlk ww xw g 3)) (ix2 p j)
      = kscale (thr (kcn (x p) W Γ j)) := by
  rw [lScales_apply (fun j => lScale (lBlk ww xw g j)), lScale_apply, col_token hx hw hg]

/-- The positional keys in terms of the token. -/
theorem pe_token (hx : ∀ p c, xw (ix2 p c) = kxw (x p) c) (hw : ∀ o c, ww (ix2 o c) = W o c) (q : Fin 64) (p : Fin 256) :
    k0_pay673 (k0_pay641 ww xw) (ix2 p q) = ky (x p) W (pos q) := by
  rw [pay673_apply, y_apply hx hw]

end Token

end Cert.KernelIdeal.Read

end
-- ==== Proof.Store.lean ====
module

public import proofs.«01_k».proof.Proof.KerRead
public import Idealize.ShloMosaic.Lib.Pipeline.ValueKit
public import Idealize.ShloMosaic.Lib.Pipeline.ReadBack

@[expose] public section

set_option maxRecDepth 16384

noncomputable section

namespace Cert.KernelIdeal.Read

open Idealize.ShloMosaic Cert.KernelIdeal Cert.KernelIdeal.Gen Cert.Latent

/-! ### Where the rectangles of the blocks lie -/

/-- Column `l` of block `k` among the 5120 columns. -/
def at128 (k : Fin 40) (l : Fin 128) : Fin 5120 := ⟨128 * k.val + l.val, by omega⟩

/-- The block of a column. -/
theorem blk_at (k : Fin 40) (l : Fin 128) : blk (at128 k l) = k := Fin.ext (by simp only [blk, at128]; omega)

/-- The lane of a column. -/
theorem lane_at (k : Fin 40) (l : Fin 128) : lane (at128 k l) = l := Fin.ext (by simp only [lane, at128]; omega)

/-- A column from its block and lane. -/
theorem at_blk (c : Fin 5120) : at128 (blk c) (lane c) = c := Fin.ext (by simp only [blk, lane, at128]; omega)

/-- Where an element of a block of columns lies. -/
theorem xRect_idx (k : Fin 40) (p : Fin 256) (l : Fin 128) : (xRect k).idx (ix2 p l) = ix2 p (at128 k l) := by
  funext a
  apply Fin.ext
  rw [Rect.idx_unit_val]
  fin_cases a
  · show 0 + p.val = p.val; omega
  · rfl

/-- Each column lies in its block. -/
theorem mem_xRect (p : Fin 256) (c : Fin 5120) : (ix2 p c : S256x5120.Idx) ∈ (xRect (blk c)).set := by
  rw [Rect.mem_set_unit]
  intro a
  fin_cases a
  · exact ⟨Nat.zero_le _, (by have := p.isLt; show p.val < 0 + 256; omega)⟩
  · refine ⟨?_, ?_⟩
    · show 128 * (c.val / 128) ≤ c.val; omega
    · show c.val < 128 * (c.val / 128) + 128; omega

/-- Where an element of a 128 x 128 block of weights lies. -/
theorem wRect_idx (o : Fin 4) (k : Fin 40) (a l : Fin 128) :
    (wRect o k).idx (ix2 a l) = ix2 ⟨128 * o.val + a.val, by omega⟩ (at128 k l) := by
  funext d
  apply Fin.ext
  rw [Rect.idx_unit_val]
  fin_cases d <;> rfl

/-- Where an element of a 64 x 128 block of weights lies. -/
theorem w4Rect_idx (k : Fin 40) (a : Fin 64) (l : Fin 128) :
    (w4Rect k).idx (ix2 a l) = ix2 ⟨512 + a.val, by omega⟩ (at128 k l) := by
  funext d
  apply Fin.ext
  rw [Rect.idx_unit_val]
  fin_cases d <;> rfl

/-- Each weight of the first 512 rows lies in its block. -/
theorem mem_wRect (o : Fin 4) (r : Fin 576) (c : Fin 5120) (h : r.val / 128 = o.val) : (ix2 r c : S576x5120.Idx) ∈ (wRect o (blk c)).set := by
  rw [Rect.mem_set_unit]
  intro a
  fin_cases a
  · refine ⟨?_, ?_⟩
    · show 128 * o.val ≤ r.val; omega
    · show r.val < 128 * o.val + 128; omega
  · refine ⟨?_, ?_⟩
    · show 128 * (c.val / 128) ≤ c.val; omega
    · show c.val < 128 * (c.val / 128) + 128; omega

/-- Each weight of the last 64 rows lies in its block. -/
theorem mem_w4Rect (r : Fin 576) (c : Fin 5120) (h : 512 ≤ r.val) : (ix2 r c : S576x5120.Idx) ∈ (w4Rect (blk c)).set := by
  rw [Rect.mem_set_unit]
  intro a
  fin_cases a
  · refine ⟨h, ?_⟩
    have := r.isLt
    show r.val < 512 + 64; omega
  · refine ⟨?_, ?_⟩
    · show 128 * (c.val / 128) ≤ c.val; omega
    · show c.val < 128 * (c.val / 128) + 128; omega

/-- Where an element of a block of gains lies. -/
theorem gRect_idx (j : Fin 4) (l q : Fin 128) : (gRect j).idx (ix2 l q) = ix2 (cell j l) q := by
  funext d
  apply Fin.ext
  rw [Rect.idx_unit_val]
  fin_cases d
  · rfl
  · show 0 + q.val = q.val; omega

/-- Where an element of a block of latent codes lies. -/
theorem cRect_idx (j : Fin 4) (p : Fin 256) (l : Fin 128) : (cRect j).idx (ix2 p l) = ix2 p (cell j l) := by
  funext d
  apply Fin.ext
  rw [Rect.idx_unit_val]
  fin_cases d
  · show 0 + p.val = p.val; omega
  · rfl

/-- The block of 128 a latent lies in, and its place there. -/
def lblk (c : Fin 512) : Fin 4 := ⟨c.val / 128, by omega⟩
/-- The lane of a latent column in its block. -/
def llane (c : Fin 512) : Fin 128 := ⟨c.val % 128, by omega⟩

/-- The block of a latent column. -/
theorem lblk_cell (j : Fin 4) (l : Fin 128) : lblk (cell j l) = j := Fin.ext (by simp only [lblk, cell]; omega)
/-- The lane of a latent column. -/
theorem llane_cell (j : Fin 4) (l : Fin 128) : llane (cell j l) = l := Fin.ext (by simp only [llane, cell]; omega)

/-- Each latent column lies in its block. -/
theorem mem_cRect (p : Fin 256) (c : Fin 512) : (ix2 p c : S256x512.Idx) ∈ (cRect (lblk c)).set := by
  rw [Rect.mem_set_unit]
  intro a
  fin_cases a
  · exact ⟨Nat.zero_le _, (by have := p.isLt; show p.val < 0 + 256; omega)⟩
  · refine ⟨?_, ?_⟩
    · show 128 * (c.val / 128) ≤ c.val; omega
    · show c.val < 128 * (c.val / 128) + 128; omega

/-- Where a single scale lies. -/
theorem sRect_idx (o : Fin 5) (k : Fin 40) (x : (sRect o k).shape.Idx) : (sRect o k).idx x = ix2 o k := by
  funext d
  apply Fin.ext
  rw [Rect.idx_unit_val]
  fin_cases d
  · have := (x 0).isLt; show o.val + (x 0).val = o.val; have h : (x 0).val < 1 := this; omega
  · have := (x 1).isLt; show k.val + (x 1).val = k.val; have h : (x 1).val < 1 := this; omega

/-! ### What the pieces leave -/

/-- The activations of token `p`, by blocks, in a block of 256 tokens. -/
def tk (x1 : S256x5120.Idx → EReal) (p : Fin 256) : Fin 40 → Fin 128 → EReal := fun k l => x1 (ix2 p (at128 k l))

variable {arg1 : Memref sig .tc .smem S5x40 .f32} {harg1 : arg1.IsWhole} {arg2 : Memref sig .tc .vmem S256x5120 .bf16} {harg2 : arg2.IsWhole}
  {arg3 : Memref sig .tc .vmem S576x5120 .fp8e4m3} {harg3 : arg3.IsWhole} {arg4 : Memref sig .tc .vmem S1x512 .f32} {harg4 : arg4.IsWhole}
  {arg10 : Memref sig .tc .vmem S576x5120 .bf16} {harg10 : arg10.IsWhole} {arg11 : Memref sig .tc .vmem S256x5120 .bf16}
  {arg12 : Memref sig .tc .vmem S512x128 .f32} {harg12 : arg12.IsWhole}
  {x0 : Vec Ideal S5x40 .f32} {x1 : Vec Ideal S256x5120 .bf16} {x2 : Vec Ideal S576x5120 .fp8e4m3} {x3 : Vec Ideal S1x512 .f32}

/-- The block of columns that the body loads. -/
theorem xBlk_apply (k : Fin 40) (p : Fin 256) (l : Fin 128) : xBlk arg2 harg2 x1 k (ix2 p l) = x1 (ix2 p (at128 k l)) := by
  unfold xBlk
  rw [View.readAt_apply, harg2.read_unread]
  exact congrArg x1 (xRect_idx k p l)

/-- A row of a loaded block is a block of the token. -/
theorem row_xBlk (k : Fin 40) (p : Fin 256) : row (xBlk arg2 harg2 x1 k) p = tk x1 p k := funext fun l => xBlk_apply k p l

/-- Each of the forty is in the list. -/
theorem down40_mem {α : Type} (f : Fin 40 → α) (k : Fin 40) : f k ∈ down40 f := by
  unfold down40
  fin_cases k <;> simp

/-- What forty pieces along the columns leave, given what each holds. -/
theorem canon_down40 {e : EltTy} (f : Fin 40 → View.Piece (Elt Ideal) S256x5120 e) (w : Fin 40 → S256x128.Idx → Elt Ideal e)
    (hf : ∀ k, f k = ⟨xRect k, w k⟩) (G : Fin 256 → Fin 5120 → Elt Ideal e) (hw : ∀ k p l, w k (ix2 p l) = G p (at128 k l))
    (p : Fin 256) (c : Fin 5120) : View.canon (down40 f) (ix2 p c) = G p c := by
  refine View.canon_apply_of_pieces (fun y => G (y 0) (y 1)) _ ?_ (ix2 p c) ⟨f (blk c), down40_mem f _, ?_⟩
  · intro q hq
    obtain ⟨k, rfl⟩ := mem_down40 hq
    rw [hf k]
    intro (x : S256x128.Idx)
    obtain ⟨a, b, rfl⟩ : ∃ a b, x = ix2 a b := ⟨x 0, x 1, eq_ix2 x⟩
    show w k (ix2 a b) = (fun y : S256x5120.Idx => G (y 0) (y 1)) ((xRect k).idx (ix2 a b))
    rw [xRect_idx, hw]
    rfl
  · rw [hf]
    exact mem_xRect p c

/-- What is stored into the scratch of dequantised tokens. -/
theorem xPay (k : Fin 40) (p : Fin 256) (l : Fin 128) : bXw (xBlk arg2 harg2 x1 k) (ix2 p l) = kxw (tk x1 p) (at128 k l) := by
  rw [bXw_apply, row_xBlk, xBlk_apply]
  unfold kxw
  rw [blk_at, lane_at]
  rfl

/-- The code of column `c` of token `p`. -/
def kcd (x : Fin 40 → Fin 128 → EReal) (c : Fin 5120) : EReal := kcode (thr (x (blk c))) (x (blk c) (lane c))

/-- What is stored into the codes of the inputs. -/
theorem cPay (k : Fin 40) (p : Fin 256) (l : Fin 128) : bCode (xBlk arg2 harg2 x1 k) (ix2 p l) = kcd (tk x1 p) (at128 k l) := by
  rw [bCode_apply, row_xBlk, xBlk_apply]
  unfold kcd
  rw [blk_at, lane_at]
  rfl

/-- The quantised inputs loaded back. -/
theorem xwBack_apply (p : Fin 256) (c : Fin 5120) : xwBack arg2 harg2 arg11 x1 (ix2 p c) = kxw (tk x1 p) c := by
  unfold xwBack
  rw [View.readCov_eq_canon']
  have e : (Rect.unit ![0, 0] S256x5120.size inb_S256x5120_S256x5120_0_0).toLoadRect.idx (ix2 p c) = (ix2 p c : S256x5120.Idx) := by
    funext a
    apply Fin.ext
    refine (Rect.idx_unit_val _ _ _ _ a).trans ?_
    fin_cases a
    · show 0 + p.val = p.val; omega
    · show 0 + c.val = c.val; omega
  show View.canon _ _ = _
  rw [e]
  have h := canon_down40 (e := .bf16) (xPiece arg2 harg2 x1) (fun k => bXw (xBlk arg2 harg2 x1 k)) (fun k => by unfold xPiece; rfl)
    (fun p c => kxw (tk x1 p) c) xPay p c
  exact h

/-- The codes stored. -/
theorem cPieces_apply (p : Fin 256) (c : Fin 5120) : View.canon (down40 (cPiece arg2 harg2 x1)) (ix2 p c) = kcd (tk x1 p) c := by
  have h := canon_down40 (e := .fp8e4m3) (cPiece arg2 harg2 x1) (fun k => bCode (xBlk arg2 harg2 x1 k)) (fun k => by unfold cPiece; rfl)
    (fun p c => kcd (tk x1 p) c) cPay p c
  exact h

/-- The scales stored. -/
theorem sPieces_apply (p : Fin 256) (k : Fin 40) :
    View.canon (sPieces (xBlk arg2 harg2 x1)) (ix2 p k) = kscale (thr (tk x1 p k)) := by
  unfold sPieces
  rw [View.canon_unit_zero (by funext a; fin_cases a <;> rfl), bLanes_apply, row_xBlk]

/-- The weights with their scales multiplied in. -/
def kW (x0 : S5x40.Idx → EReal) (x2 : S576x5120.Idx → EReal) : Fin 576 → Fin 5120 → EReal :=
  fun o c => x2 (ix2 o c) * x0 (ix2 ⟨o.val / 128, by omega⟩ (blk c))

/-- The scale that the body loads. -/
theorem sVal_apply (o : Fin 5) (k : Fin 40) : sVal arg1 harg1 x0 o k = x0 (ix2 o k) := by
  unfold sVal
  rw [View.readAt_apply, harg1.read_unread]
  exact congrArg x0 (sRect_idx o k _)

/-- The scratch of dequantised weights after its stores. -/
theorem wPieces_apply (o : Fin 576) (c : Fin 5120) :
    View.canon (wPieces arg1 harg1 arg3 harg3 x0 x2) (ix2 o c) = kW x0 x2 o c := by
  have hw : ∀ (r : Fin 4) (k : Fin 40) (x : S128x128.Idx),
      (wPiece arg1 harg1 arg3 harg3 x0 x2 r k).2 x = (fun y : S576x5120.Idx => kW x0 x2 (y 0) (y 1)) ((wRect r k).idx x) := by
    intro r k x
    obtain ⟨a, b, rfl⟩ : ∃ a b, x = ix2 a b := ⟨x 0, x 1, eq_ix2 x⟩
    show k0_pay1 (F := Ideal) (sVal arg1 harg1 x0 (Fin.castSucc r) k) (View.readAt (Elt Ideal) arg3.view (wRect r k).toLoadRect (harg3.unread x2)) (ix2 a b) = _
    rw [pay1_apply, sVal_apply, View.readAt_apply, harg3.read_unread]
    show x2 ((wRect r k).idx (ix2 a b)) * _ = _
    rw [wRect_idx]
    show _ = x2 (ix2 _ (at128 k b)) * x0 (ix2 _ (blk (at128 k b)))
    rw [blk_at]
    congr 3
    apply Fin.ext
    show r.val = (128 * r.val + a.val) / 128
    omega
  have hw4 : ∀ (k : Fin 40) (x : S64x128.Idx),
      (w4Piece arg1 harg1 arg3 harg3 x0 x2 k).2 x = (fun y : S576x5120.Idx => kW x0 x2 (y 0) (y 1)) ((w4Rect k).idx x) := by
    intro k x
    obtain ⟨a, b, rfl⟩ : ∃ a b, x = ix2 a b := ⟨x 0, x 1, eq_ix2 x⟩
    show k0_pay240 (F := Ideal) (sVal arg1 harg1 x0 4 k) (View.readAt (Elt Ideal) arg3.view (w4Rect k).toLoadRect (harg3.unread x2)) (ix2 a b) = _
    rw [pay240_apply, sVal_apply, View.readAt_apply, harg3.read_unread]
    show x2 ((w4Rect k).idx (ix2 a b)) * _ = _
    rw [w4Rect_idx]
    show _ = x2 (ix2 _ (at128 k b)) * x0 (ix2 _ (blk (at128 k b)))
    rw [blk_at]
    congr 3
    apply Fin.ext
    show 4 = (512 + a.val) / 128
    omega
  refine View.canon_apply_of_pieces (Val := Elt Ideal) (e := .bf16) (fun y : S576x5120.Idx => kW x0 x2 (y 0) (y 1)) _ ?_ (ix2 o c) ?_
  · intro q hq
    unfold wPieces at hq
    simp only [List.mem_append] at hq
    rcases hq with h | h | h | h | h <;> obtain ⟨k, rfl⟩ := mem_down40 h
    · exact hw4 k
    · exact hw 3 k
    · exact hw 2 k
    · exact hw 1 k
    · exact hw 0 k
  · unfold wPieces
    rcases Nat.lt_or_ge o.val 512 with h | h
    · have hr : ∀ r : Fin 4, o.val / 128 = r.val → ∀ q, q = wPiece arg1 harg1 arg3 harg3 x0 x2 r (blk c) → (ix2 o c : S576x5120.Idx) ∈ q.1.set :=
        fun r hr q hq => hq ▸ mem_wRect r o c hr
      have hcase : o.val / 128 = 0 ∨ o.val / 128 = 1 ∨ o.val / 128 = 2 ∨ o.val / 128 = 3 := by omega
      simp only [List.mem_append]
      rcases hcase with h | h | h | h
      · exact ⟨wPiece arg1 harg1 arg3 harg3 x0 x2 0 (blk c), .inr (.inr (.inr (.inr (down40_mem _ _)))), hr 0 h _ rfl⟩
      · exact ⟨wPiece arg1 harg1 arg3 harg3 x0 x2 1 (blk c), .inr (.inr (.inr (.inl (down40_mem _ _)))), hr 1 h _ rfl⟩
      · exact ⟨wPiece arg1 harg1 arg3 harg3 x0 x2 2 (blk c), .inr (.inr (.inl (down40_mem _ _))), hr 2 h _ rfl⟩
      · exact ⟨wPiece arg1 harg1 arg3 harg3 x0 x2 3 (blk c), .inr (.inl (down40_mem _ _)), hr 3 h _ rfl⟩
    · exact ⟨w4Piece arg1 harg1 arg3 harg3 x0 x2 (blk c), List.mem_append_left _ (down40_mem _ _), mem_w4Rect o c h⟩

/-- The gamma of each latent. -/
def kG (x3 : S1x512.Idx → EReal) : Fin 512 → EReal := fun j => x3 (ix2 0 j)

/-- The scratch of gains after its store. -/
theorem gPieces_apply (j : Fin 512) (q : Fin 128) : View.canon (gPieces arg4 harg4 x3) (ix2 j q) = kG x3 j := by
  unfold gPieces
  rw [View.canon_unit_zero (by funext a; fin_cases a <;> rfl), pay254_apply, View.readAt_eq_ld, harg4.read_unread,
    View.ld_unit_zero (by funext a; fin_cases a <;> rfl)]
  rfl

end Cert.KernelIdeal.Read

end
-- ==== Proof.Outs.lean ====
module

public import proofs.«01_k».proof.Proof.Store

@[expose] public section

set_option maxRecDepth 16384

noncomputable section

namespace Cert.KernelIdeal.Read

open Idealize.ShloMosaic Cert.KernelIdeal Cert.KernelIdeal.Gen Cert.Latent

/-! ### What the loads find -/

section Loads

variable {arg1 : Memref sig .tc .smem S5x40 .f32} {harg1 : arg1.IsWhole} {arg2 : Memref sig .tc .vmem S256x5120 .bf16} {harg2 : arg2.IsWhole}
  {arg3 : Memref sig .tc .vmem S576x5120 .fp8e4m3} {harg3 : arg3.IsWhole} {arg4 : Memref sig .tc .vmem S1x512 .f32} {harg4 : arg4.IsWhole}
  {arg10 : Memref sig .tc .vmem S576x5120 .bf16} {harg10 : arg10.IsWhole} {arg11 : Memref sig .tc .vmem S256x5120 .bf16}
  {arg12 : Memref sig .tc .vmem S512x128 .f32} {harg12 : arg12.IsWhole}
  {x0 : Vec Ideal S5x40 .f32} {x1 : Vec Ideal S256x5120 .bf16} {x2 : Vec Ideal S576x5120 .fp8e4m3} {x3 : Vec Ideal S1x512 .f32}
  {xs0 : Vec Ideal S576x5120 .bf16} {xs2 : Vec Ideal S512x128 .f32}

/-- A load of the whole weights reads each element in its place. -/
theorem wIdx (o : Fin 576) (c : Fin 5120) :
    (Rect.unit ![0, 0] S576x5120.size inb_S576x5120_S576x5120_0_0).toLoadRect.idx (ix2 o c) = (ix2 o c : S576x5120.Idx) := by
  funext a
  apply Fin.ext
  refine (Rect.idx_unit_val _ _ _ _ a).trans ?_
  fin_cases a
  · show 0 + o.val = o.val; omega
  · show 0 + c.val = c.val; omega

/-- The weights loaded at a point that stored them. -/
theorem wwBackA_apply (o : Fin 576) (c : Fin 5120) : wwBackA arg1 harg1 arg3 harg3 arg10 x0 x2 (ix2 o c) = kW x0 x2 o c := by
  unfold wwBackA
  rw [View.readCov_eq_canon']
  show View.canon _ _ = _
  rw [wIdx]
  exact wPieces_apply o c

/-- The weights loaded at a point that found them stored. -/
theorem wwBackB_apply (o : Fin 576) (c : Fin 5120) : wwBackB arg10 harg10 xs0 (ix2 o c) = xs0 (ix2 o c) := by
  unfold wwBackB
  rw [View.readAt_apply, harg10.read_unread]
  exact congrArg xs0 (wIdx o c)

/-- A block of the gamma column loaded at a point that stored the column. -/
theorem gBackA_apply (j : Fin 4) (l q : Fin 128) : gBackA arg4 harg4 arg12 x3 j (ix2 l q) = kG x3 (cell j l) := by
  unfold gBackA
  rw [View.readCov_eq_canon']
  show View.canon _ ((gRect j).idx (ix2 l q)) = _
  rw [gRect_idx]
  exact gPieces_apply (cell j l) q

/-- A block of the gamma column loaded at a point that found the column stored. -/
theorem gBackB_apply (j : Fin 4) (l q : Fin 128) : gBackB arg12 harg12 xs2 j (ix2 l q) = xs2 (ix2 (cell j l) q) := by
  unfold gBackB
  rw [View.readAt_apply, harg12.read_unread]
  exact congrArg xs2 (gRect_idx j l q)

end Loads

/-! ### What the pieces of the three latent outputs leave -/

/-- The code of latent `c` of a token. -/
def kcc (x : Fin 40 → Fin 128 → EReal) (W : Fin 576 → Fin 5120 → EReal) (Γ : Fin 512 → EReal) (c : Fin 512) : EReal :=
  kcode (thr (kcn x W Γ (lblk c))) (kcn x W Γ (lblk c) (llane c))

section Pieces

variable {ww : Vec Ideal S576x5120 .bf16} {xw : Vec Ideal S256x5120 .bf16} {g : Fin 4 → Vec Ideal S128x128 .f32}
  {x : Fin 256 → Fin 40 → Fin 128 → EReal} {W : Fin 576 → Fin 5120 → EReal} {Γ : Fin 512 → EReal}

/-- The pieces of the latent codes are those of the four blocks. -/
theorem mem_lPieces (q : View.Piece (Elt Ideal) S256x512 .fp8e4m3) (h : q ∈ lPieces ww xw g) : ∃ j : Fin 4, q = ⟨cRect j, lCode (lBlk ww xw g j)⟩ := by
  unfold lPieces at h
  simp only [List.mem_cons, List.not_mem_nil, or_false] at h
  rcases h with h | h | h | h
  · exact ⟨3, h⟩
  · exact ⟨2, h⟩
  · exact ⟨1, h⟩
  · exact ⟨0, h⟩

/-- Each of the four blocks is among the pieces. -/
theorem lPieces_mem (j : Fin 4) : (⟨cRect j, lCode (lBlk ww xw g j)⟩ : View.Piece (Elt Ideal) S256x512 .fp8e4m3) ∈ lPieces ww xw g := by
  unfold lPieces
  fin_cases j
  · exact List.mem_cons_of_mem _ (List.mem_cons_of_mem _ (List.mem_cons_of_mem _ List.mem_cons_self))
  · exact List.mem_cons_of_mem _ (List.mem_cons_of_mem _ List.mem_cons_self)
  · exact List.mem_cons_of_mem _ List.mem_cons_self
  · exact List.mem_cons_self

/-- The stored latent codes. -/
theorem lPieces_apply (hx : ∀ p c, xw (ix2 p c) = kxw (x p) c) (hw : ∀ o c, ww (ix2 o c) = W o c)
    (hg : ∀ j l q, g j (ix2 l q) = Γ (cell j l)) (p : Fin 256) (c : Fin 512) :
    View.canon (lPieces ww xw g) (ix2 p c) = kcc (x p) W Γ c := by
  refine View.canon_apply_of_pieces (Val := Elt Ideal) (e := .fp8e4m3) (fun y : S256x512.Idx => kcc (x (y 0)) W Γ (y 1)) _ ?_ (ix2 p c)
    ⟨_, lPieces_mem (lblk c), mem_cRect p c⟩
  intro q hq
  obtain ⟨j, rfl⟩ := mem_lPieces q hq
  intro (z : S256x128.Idx)
  obtain ⟨a, b, rfl⟩ : ∃ a b, z = ix2 a b := ⟨z 0, z 1, eq_ix2 z⟩
  show lCode (lBlk ww xw g j) (ix2 a b) = (fun y : S256x512.Idx => kcc (x (y 0)) W Γ (y 1)) ((cRect j).idx (ix2 a b))
  rw [cRect_idx, lCode_token hx hw hg]
  show _ = kcc (x a) W Γ (cell j b)
  unfold kcc
  rw [lblk_cell, llane_cell]

/-- The stored latent scales. -/
theorem lsPieces_apply (hx : ∀ p c, xw (ix2 p c) = kxw (x p) c) (hw : ∀ o c, ww (ix2 o c) = W o c)
    (hg : ∀ j l q, g j (ix2 l q) = Γ (cell j l)) (p : Fin 256) (j : Fin 4) :
    View.canon (lsPieces ww xw g) (ix2 p j) = kscale (thr (kcn (x p) W Γ j)) := by
  unfold lsPieces
  rw [View.canon_unit_zero (by funext a; fin_cases a <;> rfl), lScales_token hx hw hg]

/-- The stored positional keys. -/
theorem pPieces_apply (hx : ∀ p c, xw (ix2 p c) = kxw (x p) c) (hw : ∀ o c, ww (ix2 o c) = W o c) (p : Fin 256) (q : Fin 64) :
    View.canon (pPieces ww xw) (ix2 p q) = ky (x p) W (pos q) := by
  unfold pPieces
  rw [View.canon_unit_zero (by funext a; fin_cases a <;> rfl), pe_token hx hw]

end Pieces

/-! ### What a point leaves in each output and in the carried scratch -/

/-- What the first grid point leaves in the latent codes. -/
theorem out0_A_4_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (p : Fin 256) (u : Fin 512) :
    out0_A_4 c i arg1 harg1 arg2 harg2 arg3 harg3 arg4 harg4 arg5 harg5 arg6 harg6 arg7 harg7 arg8 harg8 arg9 harg9 arg10 harg10 arg11 harg11 arg12 harg12 hc0 x0 x1 x2 x3 (ix2 p u) = kcc (tk x1 p) (kW x0 x2) (kG x3) u := by
  unfold out0_A_4
  rw [View.read_writes_junk_eq_canon, run_L4_A]
  exact lPieces_apply (x := tk x1) xwBack_apply wwBackA_apply gBackA_apply p u

/-- What the first grid point leaves in the latent scales. -/
theorem out0_A_5_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (p : Fin 256) (j : Fin 4) :
    out0_A_5 c i arg1 harg1 arg2 harg2 arg3 harg3 arg4 harg4 arg5 harg5 arg6 harg6 arg7 harg7 arg8 harg8 arg9 harg9 arg10 harg10 arg11 harg11 arg12 harg12 hc0 x0 x1 x2 x3 (ix2 p j) = kscale (thr (kcn (tk x1 p) (kW x0 x2) (kG x3) j)) := by
  unfold out0_A_5
  rw [View.read_writes_junk_eq_canon, run_L5_A]
  exact lsPieces_apply (x := tk x1) xwBack_apply wwBackA_apply gBackA_apply p j

/-- What the first grid point leaves in the positional keys. -/
theorem out0_A_6_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (p : Fin 256) (q : Fin 64) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 (ix2 p q) = ky (tk x1 p) (kW x0 x2) (pos q) := by
  unfold out0_A_6
  rw [View.read_writes_junk_eq_canon, run_L6_A]
  exact pPieces_apply (x := tk x1) xwBack_apply wwBackA_apply p q

/-- What the first grid point leaves in the codes of the inputs. -/
theorem out0_A_7_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (p : Fin 256) (u : Fin 5120) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 (ix2 p u) = kcd (tk x1 p) u := by
  unfold out0_A_7
  rw [View.read_writes_junk_eq_canon, run_L7_A]
  exact cPieces_apply p u

/-- What the first grid point leaves in the scales of the inputs. -/
theorem out0_A_8_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (p : Fin 256) (k : Fin 40) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 (ix2 p k) = kscale (thr (tk x1 p k)) := by
  unfold out0_A_8
  rw [View.read_writes_junk_eq_canon, run_L8_A]
  exact sPieces_apply p k

/-- What the first grid point leaves in the scratch of dequantised weights. -/
theorem sout0_A_0_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (o : Fin 576) (u : Fin 5120) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 (ix2 o u) = kW x0 x2 o u := by
  unfold sout0_A_0
  rw [View.read_writes_junk_eq_canon, run_LS0_A]
  exact wPieces_apply o u

/-- What the first grid point leaves in the scratch of gains. -/
theorem sout0_A_2_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : cond0_0 i)
    (x0 : Vec Ideal S5x40 .f32) (x1 : Vec Ideal S256x5120 .bf16) (x2 : Vec Ideal S576x5120 .fp8e4m3) (x3 : Vec Ideal S1x512 .f32) (j : Fin 512) (q : Fin 128) :
    sout0_A_2 c i arg1 harg1 arg2 harg2 arg3 harg3 arg4 harg4 arg5 harg5 arg6 harg6 arg7 harg7 arg8 harg8 arg9 harg9 arg10 harg10 arg11 harg11 arg12 harg12 hc0 x0 x1 x2 x3 (ix2 j q) = kG x3 j := by
  unfold sout0_A_2
  rw [View.read_writes_junk_eq_canon, run_LS2_A]
  exact gPieces_apply j q

/-- What a later grid point leaves in the latent codes. -/
theorem out0_B_4_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec Ideal S5x40 .f32) (x1 : Vec Ideal S256x5120 .bf16) (x2 : Vec Ideal S576x5120 .fp8e4m3) (x3 : Vec Ideal S1x512 .f32) (xs0 : Vec Ideal S576x5120 .bf16) (xs2 : Vec Ideal S512x128 .f32) {W : Fin 576 → Fin 5120 → EReal} {Γ : Fin 512 → EReal} (hW : ∀ o c, xs0 (ix2 o c) = W o c) (hΓ : ∀ j q, xs2 (ix2 j q) = Γ j) (p : Fin 256) (u : Fin 512) :
    out0_B_4 c i arg1 harg1 arg2 harg2 arg3 harg3 arg4 harg4 arg5 harg5 arg6 harg6 arg7 harg7 arg8 harg8 arg9 harg9 arg10 harg10 arg11 harg11 arg12 harg12 hc0 x0 x1 x2 x3 xs0 xs2 (ix2 p u) = kcc (tk x1 p) W Γ u := by
  unfold out0_B_4
  rw [View.read_writes_junk_eq_canon, run_L4_B]
  exact lPieces_apply (x := tk x1) xwBack_apply (fun o c => (wwBackB_apply o c).trans (hW o c)) (fun j l q => (gBackB_apply j l q).trans (hΓ _ q)) p u

/-- What a later grid point leaves in the latent scales. -/
theorem out0_B_5_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec Ideal S5x40 .f32) (x1 : Vec Ideal S256x5120 .bf16) (x2 : Vec Ideal S576x5120 .fp8e4m3) (x3 : Vec Ideal S1x512 .f32) (xs0 : Vec Ideal S576x5120 .bf16) (xs2 : Vec Ideal S512x128 .f32) {W : Fin 576 → Fin 5120 → EReal} {Γ : Fin 512 → EReal} (hW : ∀ o c, xs0 (ix2 o c) = W o c) (hΓ : ∀ j q, xs2 (ix2 j q) = Γ j) (p : Fin 256) (j : Fin 4) :
    out0_B_5 c i arg1 harg1 arg2 harg2 arg3 harg3 arg4 harg4 arg5 harg5 arg6 harg6 arg7 harg7 arg8 harg8 arg9 harg9 arg10 harg10 arg11 harg11 arg12 harg12 hc0 x0 x1 x2 x3 xs0 xs2 (ix2 p j) = kscale (thr (kcn (tk x1 p) W Γ j)) := by
  unfold out0_B_5
  rw [View.read_writes_junk_eq_canon, run_L5_B]
  exact lsPieces_apply (x := tk x1) xwBack_apply (fun o c => (wwBackB_apply o c).trans (hW o c)) (fun j l q => (gBackB_apply j l q).trans (hΓ _ q)) p j

/-- What a later grid point leaves in the positional keys. -/
theorem out0_B_6_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec Ideal S5x40 .f32) (x1 : Vec Ideal S256x5120 .bf16) (x2 : Vec Ideal S576x5120 .fp8e4m3) (x3 : Vec Ideal S1x512 .f32) (xs0 : Vec Ideal S576x5120 .bf16) (xs2 : Vec Ideal S512x128 .f32) {W : Fin 576 → Fin 5120 → EReal} {Γ : Fin 512 → EReal} (hW : ∀ o c, xs0 (ix2 o c) = W o c) (hΓ : ∀ j q, xs2 (ix2 j q) = Γ j) (p : Fin 256) (q : Fin 64) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 xs0 xs2 (ix2 p q) = ky (tk x1 p) W (pos q) := by
  unfold out0_B_6
  rw [View.read_writes_junk_eq_canon, run_L6_B]
  exact pPieces_apply (x := tk x1) xwBack_apply (fun o c => (wwBackB_apply o c).trans (hW o c)) p q

/-- What a later grid point leaves in the codes of the inputs. -/
theorem out0_B_7_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec Ideal S5x40 .f32) (x1 : Vec Ideal S256x5120 .bf16) (x2 : Vec Ideal S576x5120 .fp8e4m3) (x3 : Vec Ideal S1x512 .f32) (xs0 : Vec Ideal S576x5120 .bf16) (xs2 : Vec Ideal S512x128 .f32) (p : Fin 256) (u : Fin 5120) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 xs0 xs2 (ix2 p u) = kcd (tk x1 p) u := by
  unfold out0_B_7
  rw [View.read_writes_junk_eq_canon, run_L7_B]
  exact cPieces_apply p u

/-- What a later grid point leaves in the scales of the inputs. -/
theorem out0_B_8_apply (c : Dev nD) (i : grid0.Coords) (arg1 : Memref sig .tc .smem S5x40 .f32) (harg1 : arg1.IsWhole) (arg2 : Memref sig .tc .vmem S256x5120 .bf16) (harg2 : arg2.IsWhole) (arg3 : Memref sig .tc .vmem S576x5120 .fp8e4m3) (harg3 : arg3.IsWhole) (arg4 : Memref sig .tc .vmem S1x512 .f32) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x5120 .fp8e4m3) (harg8 : arg8.IsWhole) (arg9 : Memref sig .tc .vmem S256x40 .f32) (harg9 : arg9.IsWhole) (arg10 : Memref sig .tc .vmem S576x5120 .bf16) (harg10 : arg10.IsWhole) (arg11 : Memref sig .tc .vmem S256x5120 .bf16) (harg11 : arg11.IsWhole) (arg12 : Memref sig .tc .vmem S512x128 .f32) (harg12 : arg12.IsWhole) (hc0 : ¬cond0_0 i)
    (x0 : Vec Ideal S5x40 .f32) (x1 : Vec Ideal S256x5120 .bf16) (x2 : Vec Ideal S576x5120 .fp8e4m3) (x3 : Vec Ideal S1x512 .f32) (xs0 : Vec Ideal S576x5120 .bf16) (xs2 : Vec Ideal S512x128 .f32) (p : Fin 256) (k : Fin 40) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 xs0 xs2 (ix2 p k) = kscale (thr (tk x1 p k)) := by
  unfold out0_B_8
  rw [View.read_writes_junk_eq_canon, run_L8_B]
  exact sPieces_apply p k

end Cert.KernelIdeal.Read

end
-- ==== Proof.Args.lean ====
module

public import proofs.«01_k».proof.Proof.Token
public import Idealize.ShloMosaic.Lib.Pipeline.ValueKit

/-!
# The arguments by token

Both programs see the four arguments through reshapes. Here they are by token, by output row and by latent, together with the one reshape
(sixteen sequences of 128 tokens to 2048 tokens) both make.
-/

@[expose] public section

noncomputable section

namespace Cert.Latent

open Idealize.ShloMosaic

/-- The activations of token `r` of the 2048, by blocks of 128. -/
def aTok (a0 : (⟨3, ![16, 128, 5120]⟩ : Shape).Idx → EReal) (r : Fin 2048) : Fin 40 → Fin 128 → EReal :=
  fun k l => a0 (ix3 ⟨r.val / 128, by omega⟩ ⟨r.val % 128, by omega⟩ ⟨128 * k.val + l.val, by omega⟩)

/-- The weights with the scale of their block multiplied in. -/
def aW (a1 : (⟨2, ![576, 5120]⟩ : Shape).Idx → EReal) (a2 : (⟨2, ![5, 40]⟩ : Shape).Idx → EReal) : Fin 576 → Fin 5120 → EReal :=
  fun o c => a1 (ix2 o c) * a2 (ix2 ⟨o.val / 128, by omega⟩ (blk c))

/-- The gains. -/
def aG (a3 : (⟨1, ![512]⟩ : Shape).Idx → EReal) : Fin 512 → EReal := fun j => a3 (ix1 j)

/-- Flattening the 16 x 128 tokens: row r is token (r / 128, r % 128). -/
theorem shapeCast_tokens (x : (⟨3, ![16, 128, 5120]⟩ : Shape).Idx → EReal)
    (h : (⟨3, ![16, 128, 5120]⟩ : Shape).ShapeCasts ⟨2, ![2048, 5120]⟩) (r : Fin 2048) (k : Fin 5120) :
    shapeCast ⟨2, ![2048, 5120]⟩ x h (ix2 r k) = x (ix3 ⟨r.val / 128, by omega⟩ ⟨r.val % 128, by omega⟩ k) := by
  refine shapeCast_apply _ _ _ _ ?_
  rw [Shape.rowMajor_val_three, Shape.rowMajor_val_two]
  show (r.val / 128 * 128 + r.val % 128) * 5120 + k.val = r.val * 5120 + k.val
  have := Nat.div_add_mod r.val 128
  omega

/-- Flattening the tokens and splitting the columns into blocks of 128. -/
theorem shapeCast_blocks (x : (⟨3, ![16, 128, 5120]⟩ : Shape).Idx → EReal)
    (h : (⟨3, ![16, 128, 5120]⟩ : Shape).ShapeCasts ⟨3, ![2048, 40, 128]⟩) (r : Fin 2048) (k : Fin 40) (l : Fin 128) :
    shapeCast ⟨3, ![2048, 40, 128]⟩ x h (ix3 r k l) = aTok x r k l := by
  refine shapeCast_apply _ _ _ _ ?_
  rw [Shape.rowMajor_val_three, Shape.rowMajor_val_three]
  show (r.val / 128 * 128 + r.val % 128) * 5120 + (128 * k.val + l.val) = (r.val * 40 + k.val) * 128 + l.val
  have := Nat.div_add_mod r.val 128
  omega

/-- A vector as a matrix of one row. -/
theorem shapeCast_row (x : (⟨1, ![512]⟩ : Shape).Idx → EReal)
    (h : (⟨1, ![512]⟩ : Shape).ShapeCasts ⟨2, ![1, 512]⟩) (j : Fin 512) :
    shapeCast ⟨2, ![1, 512]⟩ x h (ix2 0 j) = aG x j := by
  refine shapeCast_apply _ _ _ _ ?_
  rw [Shape.rowMajor_val_one, Shape.rowMajor_val_two]
  show j.val = 0 * 512 + j.val
  omega

end Cert.Latent
-- ==== Proof.KerArr.lean ====
module

public import proofs.«01_k».proof.Proof.Outs
public import proofs.«01_k».proof.Proof.Args

/-!
# What the kernel leaves in its five result arrays

The scaled weights and the gamma column are stored at the first of the eight points and stay as they are. So every point quantises and
projects its own 256 tokens with the same weights, and the arrays are functions of the arguments token by token.
-/

@[expose] public section

set_option maxRecDepth 16384

noncomputable section

namespace Cert.KernelIdeal.Read

open Idealize.ShloMosaic Idealize.ShloMosaic.TcCoe Idealize.ShloMosaic.Tactic Cert.KernelIdeal Cert.KernelIdeal.Gen Cert.Latent

variable (m : (ℓ : Loc nD τ sig) → Buf (Elt Ideal) ℓ)

/-! ### The arguments, and the blocks a point finds -/

/-- The activations on device c. -/
def arg0V (c : Dev nD) : S16x128x5120.Idx → EReal := m ((c : Thread nD τ).loc main_arg0)
/-- The weights' codes on device c. -/
def arg1V (c : Dev nD) : S576x5120.Idx → EReal := m ((c : Thread nD τ).loc main_arg1)
/-- The weights' scales on device c. -/
def arg2V (c : Dev nD) : S5x40.Idx → EReal := m ((c : Thread nD τ).loc main_arg2)
/-- The gains on device c. -/
def arg3V (c : Dev nD) : S512.Idx → EReal := m ((c : Thread nD τ).loc main_arg3)

/-- The flattened activations hold token r in row r. -/
theorem V_v0 (c : Dev nD) (r : Fin 2048) (k : Fin 5120) : (V m c main_v0 : S2048x5120.Idx → EReal) (ix2 r k)
    = arg0V m c (ix3 ⟨r.val / 128, by omega⟩ ⟨r.val % 128, by omega⟩ k) := by
  unfold_abbrev_sides
  after_results
  exact shapeCast_tokens (arg0V m c) _ r k

/-- The gains as one row. -/
theorem V_v1 (c : Dev nD) (j : Fin 512) : (V m c main_v1 : S1x512.Idx → EReal) (ix2 0 j) = aG (arg3V m c) j := by
  unfold_abbrev_sides
  after_results
  exact shapeCast_row (arg3V m c) _ j

/-- Each grid point reads all of the scales. -/
theorem idx0 : ∀ t : Fin cfg0.N, win0_0.index t = ![0, 0] := (by decide +kernel : ∀ t : Fin grid0.N, _)
/-- Grid point t reads the t-th block of tokens. -/
theorem idx1 : ∀ t : Fin cfg0.N, win0_1.index t = ![t.val, 0] := (by decide +kernel : ∀ t : Fin grid0.N, _)
/-- Each grid point reads all of the weights. -/
theorem idx2 : ∀ t : Fin cfg0.N, win0_2.index t = ![0, 0] := (by decide +kernel : ∀ t : Fin grid0.N, _)
/-- Each grid point reads all of the gains. -/
theorem idx3 : ∀ t : Fin cfg0.N, win0_3.index t = ![0, 0] := (by decide +kernel : ∀ t : Fin grid0.N, _)

/-- The scales as a grid point sees them. -/
theorem iblk0 (c : Dev nD) (t : Fin cfg0.N) (o : Fin 5) (k : Fin 40) : (iblk m c 0 t : S5x40.Idx → EReal) (ix2 o k) = arg2V m c (ix2 o k) := by
  show (V m c main_arg2) (((cfg0.win 0).blk t).view.emb (ix2 o k)) = _
  rw [V_main_arg2]
  refine congrArg (m ((c : Thread nD τ).loc main_arg2)) ?_
  funext a
  apply Fin.ext
  blk_simp
  rw [idx0]
  fin_cases a
  · show 0 * 5 + o.val = o.val; omega
  · show 0 * 40 + k.val = k.val; omega

/-- Row p of block t is a token. -/
theorem point_lt (t : Fin cfg0.N) (p : Fin 256) : 256 * t.val + p.val < 2048 := by
  have := t.isLt; have h : cfg0.N = 8 := N_0; omega

/-- The tokens as grid point t sees them. -/
theorem iblk1 (c : Dev nD) (t : Fin cfg0.N) (p : Fin 256) (k : Fin 5120) : (iblk m c 1 t : S256x5120.Idx → EReal) (ix2 p k)
    = (V m c main_v0 : S2048x5120.Idx → EReal) (ix2 ⟨256 * t.val + p.val, point_lt t p⟩ k) := by
  show (V m c main_v0) (((cfg0.win 1).blk t).view.emb (ix2 p k)) = _
  refine congrArg (V m c main_v0) ?_
  funext a
  apply Fin.ext
  blk_simp
  rw [idx1]
  fin_cases a
  · show t.val * 256 + p.val = 256 * t.val + p.val; omega
  · show 0 * 5120 + k.val = k.val; omega

/-- The weights as a grid point sees them. -/
theorem iblk2 (c : Dev nD) (t : Fin cfg0.N) (o : Fin 576) (k : Fin 5120) :
    (iblk m c 2 t : S576x5120.Idx → EReal) (ix2 o k) = arg1V m c (ix2 o k) := by
  show (V m c main_arg1) (((cfg0.win 2).blk t).view.emb (ix2 o k)) = _
  rw [V_main_arg1]
  refine congrArg (m ((c : Thread nD τ).loc main_arg1)) ?_
  funext a
  apply Fin.ext
  blk_simp
  rw [idx2]
  fin_cases a
  · show 0 * 576 + o.val = o.val; omega
  · show 0 * 5120 + k.val = k.val; omega

/-- The gains as a grid point sees them. -/
theorem iblk3 (c : Dev nD) (t : Fin cfg0.N) (j : Fin 512) : (iblk m c 3 t : S1x512.Idx → EReal) (ix2 0 j) = aG (arg3V m c) j := by
  rw [← V_v1]
  show (V m c main_v1) (((cfg0.win 3).blk t).view.emb (ix2 0 j)) = _
  refine congrArg (V m c main_v1) ?_
  funext a
  apply Fin.ext
  blk_simp
  rw [idx3]
  fin_cases a
  · rfl
  · show 0 * 512 + j.val = j.val; omega

/-- The tokens of point `t`. -/
theorem tk_iblk (c : Dev nD) (t : Fin cfg0.N) (p : Fin 256) :
    tk (iblk m c 1 t) p = aTok (arg0V m c) ⟨256 * t.val + p.val, point_lt t p⟩ := by
  funext k l
  unfold tk aTok
  exact (iblk1 m c t p _).trans (V_v0 m c _ _)

/-- The dequantised weights of a grid point are those of the arguments. -/
theorem kW_iblk (c : Dev nD) (t : Fin cfg0.N) : kW (iblk m c 0 t) (iblk m c 2 t) = aW (arg1V m c) (arg2V m c) := by
  funext o k
  unfold kW aW
  exact congrArg₂ (· * ·) (iblk2 m c t o k) (iblk0 m c t _ _)

/-- The gains of a grid point are those of the arguments. -/
theorem kG_iblk (c : Dev nD) (t : Fin cfg0.N) : kG (iblk m c 3 t) = aG (arg3V m c) := by
  funext j
  exact iblk3 m c t j

/-! ### The carried scratch -/

/-- After every point the weights' scratch holds the scaled weights, the gamma column's scratch the gains. -/
theorem carried (c : Dev nD) : ∀ (n : ℕ) (hn : n < cfg0.N),
    (∀ (o : Fin 576) (k : Fin 5120), (outsAt0 m c n hn).2.2.2.2.2.1 (ix2 o k) = aW (arg1V m c) (arg2V m c) o k)
      ∧ ∀ (j : Fin 512) (q : Fin 128), (outsAt0 m c n hn).2.2.2.2.2.2 (ix2 j q) = aG (arg3V m c) j := by
  have hA : ∀ (t : Fin cfg0.N) (h0 : t.val % 8 = 0),
      (∀ (o : Fin 576) (k : Fin 5120), (outsAt0 m c t.val t.isLt).2.2.2.2.2.1 (ix2 o k) = aW (arg1V m c) (arg2V m c) o k)
        ∧ ∀ (j : Fin 512) (q : Fin 128), (outsAt0 m c t.val t.isLt).2.2.2.2.2.2 (ix2 j q) = aG (arg3V m c) j := by
    intro t h0
    rw [outsAt0_A m c t h0]
    refine ⟨fun o k => ?_, fun j q => ?_⟩
    · rw [← kW_iblk m c t]
      dsimp only
      exact sout0_A_0_apply ..
    · rw [← kG_iblk m c t]
      dsimp only
      exact sout0_A_2_apply ..
  intro n
  induction n with
  | zero => exact fun hn => hA ⟨0, hn⟩ rfl
  | succ n ih =>
    intro hn
    by_cases h0 : (n + 1) % 8 = 0
    · exact hA ⟨n + 1, hn⟩ h0
    · have e : outsAt0 m c (n + 1) hn = _ := outsAt0_B m c ⟨n + 1, hn⟩ h0
      rw [e]
      exact ih (Nat.lt_of_succ_lt hn)

/-! ### What a point leaves in the outputs -/

/-- What the five outputs hold after point `t`, given by token. -/
theorem outs_at (c : Dev nD) (t : Fin cfg0.N) :
    (∀ (p : Fin 256) (u : Fin 512), (outsAt0 m c t.val t.isLt).1 (ix2 p u)
        = kcc (aTok (arg0V m c) ⟨256 * t.val + p.val, point_lt t p⟩) (aW (arg1V m c) (arg2V m c)) (aG (arg3V m c)) u)
      ∧ (∀ (p : Fin 256) (j : Fin 4), (outsAt0 m c t.val t.isLt).2.1 (ix2 p j)
        = kscale (thr (kcn (aTok (arg0V m c) ⟨256 * t.val + p.val, point_lt t p⟩) (aW (arg1V m c) (arg2V m c)) (aG (arg3V m c)) j)))
      ∧ (∀ (p : Fin 256) (q : Fin 64), (outsAt0 m c t.val t.isLt).2.2.1 (ix2 p q)
        = ky (aTok (arg0V m c) ⟨256 * t.val + p.val, point_lt t p⟩) (aW (arg1V m c) (arg2V m c)) (pos q))
      ∧ (∀ (p : Fin 256) (u : Fin 5120), (outsAt0 m c t.val t.isLt).2.2.2.1 (ix2 p u)
        = kcd (aTok (arg0V m c) ⟨256 * t.val + p.val, point_lt t p⟩) u)
      ∧ (∀ (p : Fin 256) (k : Fin 40), (outsAt0 m c t.val t.isLt).2.2.2.2.1 (ix2 p k)
        = kscale (thr (aTok (arg0V m c) ⟨256 * t.val + p.val, point_lt t p⟩ k))) := by
  simp only [← tk_iblk]
  by_cases h0 : t.val % 8 = 0
  · rw [outsAt0_A m c t h0, ← kW_iblk m c t, ← kG_iblk m c t]
    dsimp only
    exact ⟨fun p u => out0_A_4_apply .., fun p j => out0_A_5_apply .., fun p q => out0_A_6_apply .., fun p u => out0_A_7_apply ..,
      fun p k => out0_A_8_apply ..⟩
  · rw [outsAt0_B m c t h0]
    have h := carried m c (t.val - 1) (Nat.lt_of_le_of_lt (Nat.sub_le _ _) t.isLt)
    dsimp only
    exact ⟨fun p u => out0_B_4_apply (hW := h.1) (hΓ := h.2) .., fun p j => out0_B_5_apply (hW := h.1) (hΓ := h.2) ..,
      fun p q => out0_B_6_apply (hW := h.1) (hΓ := h.2) .., fun p u => out0_B_7_apply .., fun p k => out0_B_8_apply ..⟩

/-! ### The arrays -/

/-- The grid point that writes a row exists. -/
theorem pt_lt (r : Fin 2048) {n w : ℕ} (h : n < w) : 1 * (r.val / 256 - 0) + 1 * (n / w - 0) < cfg0.N := by
  have hN : cfg0.N = 8 := N_0
  rw [Nat.div_eq_of_lt h, hN]
  omega

/-- The row that a grid point writes is the row of that token. -/
theorem pt_tok (r : Fin 2048) {n w : ℕ} (h : n < w) (hlt) :
    (⟨256 * (1 * (r.val / 256 - 0) + 1 * (n / w - 0)) + r.val % 256, hlt⟩ : Fin 2048) = r := by
  apply Fin.ext
  show 256 * (1 * (r.val / 256 - 0) + 1 * (n / w - 0)) + r.val % 256 = r.val
  rw [Nat.div_eq_of_lt h]
  omega

/-- The latent codes. -/
theorem G4_apply (c : Dev nD) (r : Fin 2048) (u : Fin 512) :
    (Value.G4 m c : S2048x512.Idx → EReal) (ix2 r u) = kcc (aTok (arg0V m c) r) (aW (arg1V m c) (arg2V m c)) (aG (arg3V m c)) u := by
  have hp := pt_lt r u.isLt
  have h := (outs_at m c ⟨_, hp⟩).1 ⟨r.val % 256, by omega⟩ u
  rw [pt_tok r u.isLt] at h
  have e : Value.loc4Of (ix2 r u) = ix2 ⟨r.val % 256, by omega⟩ u := by
    funext a
    fin_cases a
    · rfl
    · exact Fin.ext (Nat.mod_eq_of_lt u.isLt)
  refine Eq.trans ?_ h
  unfold Value.G4
  rw [dif_pos (show Value.pt4Of (ix2 r u) < cfg0.N from hp), e]
  have s := Value.outsAt0_sweep m c _ hp
  dsimp only
  rw [s]
  rfl

/-- The latent scales. -/
theorem G5_apply (c : Dev nD) (r : Fin 2048) (u : Fin 4) :
    (Value.G5 m c : S2048x4.Idx → EReal) (ix2 r u)
      = kscale (thr (kcn (aTok (arg0V m c) r) (aW (arg1V m c) (arg2V m c)) (aG (arg3V m c)) u)) := by
  have hp := pt_lt r u.isLt
  have h := (outs_at m c ⟨_, hp⟩).2.1 ⟨r.val % 256, by omega⟩ u
  rw [pt_tok r u.isLt] at h
  have e : Value.loc5Of (ix2 r u) = ix2 ⟨r.val % 256, by omega⟩ u := by
    funext a
    fin_cases a
    · rfl
    · exact Fin.ext (Nat.mod_eq_of_lt u.isLt)
  refine Eq.trans ?_ h
  unfold Value.G5
  rw [dif_pos (show Value.pt5Of (ix2 r u) < cfg0.N from hp), e]
  have s := Value.outsAt0_sweep m c _ hp
  dsimp only
  rw [s]
  rfl

/-- The positional keys. -/
theorem G6_apply (c : Dev nD) (r : Fin 2048) (u : Fin 64) :
    (Value.G6 m c : S2048x64.Idx → EReal) (ix2 r u) = ky (aTok (arg0V m c) r) (aW (arg1V m c) (arg2V m c)) (pos u) := by
  have hp := pt_lt r u.isLt
  have h := (outs_at m c ⟨_, hp⟩).2.2.1 ⟨r.val % 256, by omega⟩ u
  rw [pt_tok r u.isLt] at h
  have e : Value.loc6Of (ix2 r u) = ix2 ⟨r.val % 256, by omega⟩ u := by
    funext a
    fin_cases a
    · rfl
    · exact Fin.ext (Nat.mod_eq_of_lt u.isLt)
  refine Eq.trans ?_ h
  unfold Value.G6
  rw [dif_pos (show Value.pt6Of (ix2 r u) < cfg0.N from hp), e]
  have s := Value.outsAt0_sweep m c _ hp
  dsimp only
  rw [s]
  rfl

/-- The codes of the inputs. -/
theorem G7_apply (c : Dev nD) (r : Fin 2048) (u : Fin 5120) :
    (Value.G7 m c : S2048x5120.Idx → EReal) (ix2 r u) = kcd (aTok (arg0V m c) r) u := by
  have hp := pt_lt r u.isLt
  have h := (outs_at m c ⟨_, hp⟩).2.2.2.1 ⟨r.val % 256, by omega⟩ u
  rw [pt_tok r u.isLt] at h
  have e : Value.loc7Of (ix2 r u) = ix2 ⟨r.val % 256, by omega⟩ u := by
    funext a
    fin_cases a
    · rfl
    · exact Fin.ext (Nat.mod_eq_of_lt u.isLt)
  refine Eq.trans ?_ h
  unfold Value.G7
  rw [dif_pos (show Value.pt7Of (ix2 r u) < cfg0.N from hp), e]
  have s := Value.outsAt0_sweep m c _ hp
  dsimp only
  rw [s]
  rfl

/-- The scales of the inputs. -/
theorem G8_apply (c : Dev nD) (r : Fin 2048) (u : Fin 40) :
    (Value.G8 m c : S2048x40.Idx → EReal) (ix2 r u) = kscale (thr (aTok (arg0V m c) r u)) := by
  have hp := pt_lt r u.isLt
  have h := (outs_at m c ⟨_, hp⟩).2.2.2.2 ⟨r.val % 256, by omega⟩ u
  rw [pt_tok r u.isLt] at h
  have e : Value.loc8Of (ix2 r u) = ix2 ⟨r.val % 256, by omega⟩ u := by
    funext a
    fin_cases a
    · rfl
    · exact Fin.ext (Nat.mod_eq_of_lt u.isLt)
  refine Eq.trans ?_ h
  unfold Value.G8
  rw [dif_pos (show Value.pt8Of (ix2 r u) < cfg0.N from hp), e]
  have s := Value.outsAt0_sweep m c _ hp
  dsimp only
  rw [s]
  rfl

end Cert.KernelIdeal.Read

end
-- ==== Proof.RefRead.lean ====
module

public import proofs.«01_k».proof.Proof.Gen.ReferenceIdeal.Skeleton
public import proofs.«01_k».proof.Proof.Token
public import Idealize.ShloMosaic.Lib.Pointwise

@[expose] public section

set_option maxRecDepth 16384

noncomputable section

namespace Cert.ReferenceIdeal.Read

open Idealize.ShloMosaic Cert.ReferenceIdeal Cert.ReferenceIdeal.Gen Cert.Latent

/-- One token's activations, by blocks. -/
def tok (x : S2048x40x128.Idx → EReal) (r : Fin 2048) : Fin 40 → Fin 128 → EReal := fun k l => x (ix3 r k l)

/-- The f32 word of minus infinity. -/
theorem ofBits_neg_inf : Ideal.ofBits .f32 0xFF800000#32 = ⊥ := by
  simp [Ideal.ofBits, Ideal.ieee]

/-! ### The activations -/

/-- The threshold of every block, as the reference's operations compute it. -/
def xT (v2 : FVec Ideal S2048x40x128 .f32) : FVec Ideal S2048x40x1 .f32 :=
  mulf (shapeCast S2048x40x1 (multiReduction .maximumf [2] S2048x40 (absf v2) 0xFF800000#32
      reduces_S2048x40x128_S2048x40 (.inl rfl) rfl) shapeCasts_S2048x40_S2048x40x1)
    (broadcast S2048x40x1 (Scalar.ofBits .f32 0x3B124925#32))

/-- The largest magnitude of a block. -/
theorem xMax_apply (v : FVec Ideal S2048x40x128 .f32) (r : Fin 2048) (k : Fin 40) (u : Fin 1) :
    shapeCast S2048x40x1 (multiReduction .maximumf [2] S2048x40 v 0xFF800000#32
      reduces_S2048x40x128_S2048x40 (.inl rfl) rfl) shapeCasts_S2048x40_S2048x40x1 (ix3 r k u)
    = Finset.univ.fold max (Ideal.ofBits .f32 0xFF800000#32) fun x => v (ix3 r k x) := by
  pointwise

/-- The threshold of a block. -/
theorem xT_apply (v : FVec Ideal S2048x40x128 .f32) (r : Fin 2048) (k : Fin 40) (u : Fin 1) :
    xT v (ix3 r k u) = thr (tok v r k) := by
  unfold xT thr
  rw [mulf_apply, xMax_apply, ofBits_neg_inf]
  rfl

/-- The scale of every block from its threshold. -/
def xScale (v7 : FVec Ideal S2048x40x1 .f32) : FVec Ideal S2048x40x1 .f32 :=
  have v8 : IVec S2048x40x253 32 := iota .tc S2048x40x253 32 [2] iota_S2048x40x253_d2_w32
  have v9 : FVec Ideal S2048x40x253 .f32 := sitofp .f32 v8
  have v10 : FVec Ideal S2048x40x253 .f32 := broadcast S2048x40x253 (Scalar.ofBits .f32 0x42FA0000#32)
  have v12 : FVec Ideal S2048x40x253 .f32 := exp2 (subf v9 v10)
  have v13 : FVec Ideal S2048x40x253 .f32 := broadcastTo S2048x40x253 v7 broadcasts_S2048x40x1_S2048x40x253
  have v14 : IVec S2048x40x253 1 := cmpf .ogt v12 v13
  have v15 : FVec Ideal S2048x40x253 .f32 := broadcast S2048x40x253 (Scalar.ofBits .f32 0x7F800000#32)
  have v16 : FVec Ideal S2048x40x253 .f32 := select v14 v12 v15
  have v17 : FVec Ideal S2048x40 .f32 := multiReduction .minimumf [2] S2048x40 v16 0x7F800000#32
    reduces_S2048x40x253_S2048x40 (.inl rfl) rfl
  have v18 : FVec Ideal S2048x40x1 .f32 := shapeCast S2048x40x1 v17 shapeCasts_S2048x40_S2048x40x1
  have v19 : FVec Ideal S2048x40x1 .f32 := broadcast S2048x40x1 (Scalar.ofBits .f32 0x00800000#32)
  have v20 : IVec S2048x40x1 1 := cmpf .olt v7 v19
  have v21 : FVec Ideal S2048x40x1 .f32 := broadcast S2048x40x1 (Scalar.ofBits .f32 0x3F800000#32)
  select v20 v21 v18

/-- The scale of a block. -/
theorem xScale_apply (v : FVec Ideal S2048x40x1 .f32) (r : Fin 2048) (k : Fin 40) (u : Fin 1) :
    xScale v (ix3 r k u) = rscale (v (ix3 r k u)) := by
  have hu : u = 0 := Subsingleton.elim _ _
  subst hu
  pointwise [xScale, rscale, power]

/-- Widening to f32 changes no value. -/
theorem pay6_eq (v : Vec Ideal S2048x40x128 .bf16) : k0_pay6 v = v := by
  unfold k0_pay6
  rw [shapeCast_id]
  rfl

theorem pay7_eq (v : Vec Ideal S2048x40x128 .bf16) : k0_pay7 v = xScale (xT (k0_pay6 v)) := rfl

/-- The scale of an input block. -/
theorem pay7_apply (v : Vec Ideal S2048x40x128 .bf16) (r : Fin 2048) (k : Fin 40) (u : Fin 1) :
    k0_pay7 v (ix3 r k u) = rscale (thr (tok v r k)) := by
  rw [pay7_eq, xScale_apply, xT_apply, pay6_eq]

/-- The codes of every block from its scales. -/
def xCode (v2 : FVec Ideal S2048x40x128 .f32) (s : FVec Ideal S2048x40x1 .f32) : FVec Ideal S2048x40x128 .f32 :=
  minimumf (broadcast S2048x40x128 (Scalar.ofBits .f32 0x43E00000#32))
    (maximumf (broadcast S2048x40x128 (Scalar.ofBits .f32 0xC3E00000#32))
      (mulf v2 (broadcastTo S2048x40x128 (divf (broadcast S2048x40x1 (Scalar.ofBits .f32 0x3F800000#32)) s)
        broadcasts_S2048x40x1_S2048x40x128)))

/-- Scaling and clipping, element by element. -/
theorem xCode_apply (v2 : FVec Ideal S2048x40x128 .f32) (s : FVec Ideal S2048x40x1 .f32)
    (r : Fin 2048) (k : Fin 40) (l : Fin 128) :
    xCode v2 s (ix3 r k l) = min (Ideal.ofBits .f32 0x43E00000#32)
      (max (Ideal.ofBits .f32 0xC3E00000#32) (v2 (ix3 r k l) * Ideal.div 1 (s (ix3 r k 0)))) := by
  pointwise [xCode]

theorem pay8_eq (v : Vec Ideal S2048x40x128 .bf16) : k0_pay8 v = xCode (k0_pay6 v) (k0_pay7 v) := rfl

/-- The code of an input. -/
theorem pay8_apply (v : Vec Ideal S2048x40x128 .bf16) (r : Fin 2048) (k : Fin 40) (l : Fin 128) :
    k0_pay8 v (ix3 r k l) = rcode (thr (tok v r k)) (tok v r k l) := by
  rw [pay8_eq, xCode_apply, pay7_apply, pay6_eq]
  rfl

/-- Codes times scales, flat. -/
def xWide (c : FVec Ideal S2048x40x128 .fp8e4m3) (s : FVec Ideal S2048x40x1 .f32) : FVec Ideal S2048x5120 .bf16 :=
  shapeCast S2048x5120 (mulf (extf .bf16 c bitsLt_fp8e4m3_bf16)
    (broadcastTo S2048x40x128 (truncf .bf16 s bitsLt_bf16_f32) broadcasts_S2048x40x1_S2048x40x128))
    shapeCasts_S2048x40x128_S2048x5120

/-- Code times scale, flattened. -/
theorem xWide_apply (c : FVec Ideal S2048x40x128 .fp8e4m3) (s : FVec Ideal S2048x40x1 .f32) (r : Fin 2048) (j : Fin 5120) :
    xWide c s (ix2 r j) = c (ix3 r (blk j) (lane j)) * s (ix3 r (blk j) 0) := by
  pointwise [xWide, blk, lane]

theorem pay9_eq (v : Vec Ideal S2048x40x128 .bf16) : k0_pay9 v = xWide (k0_pay8 v) (k0_pay7 v) := rfl

/-- The dequantised input. -/
theorem pay9_apply (v : Vec Ideal S2048x40x128 .bf16) (r : Fin 2048) (j : Fin 5120) :
    k0_pay9 v (ix2 r j) = rxw (tok v r) j := by
  rw [pay9_eq, xWide_apply, pay8_apply, pay7_apply]
  rfl

/-- The codes flattened. -/
theorem pay4_apply (v : FVec Ideal S2048x40x128 .fp8e4m3) (r : Fin 2048) (j : Fin 5120) :
    k0_pay4 v (ix2 r j) = v (ix3 r (blk j) (lane j)) := by
  pointwise [k0_pay4, blk, lane]

/-- The scales without their unit axis. -/
theorem pay5_apply (v : FVec Ideal S2048x40x1 .f32) (r : Fin 2048) (k : Fin 40) :
    k0_pay5 v (ix2 r k) = v (ix3 r k 0) := by
  pointwise [k0_pay5]

/-! ### The projection -/

/-- The weights with their scales multiplied in. -/
def wts (w : S576x5120.Idx → EReal) (s : S576x5120.Idx → EReal) : Fin 576 → Fin 5120 → EReal :=
  fun o j => w (ix2 o j) * s (ix2 o j)

/-- The dequantised weight. -/
theorem pay10_apply (w : Vec Ideal S576x5120 .fp8e4m3) (s : Vec Ideal S576x5120 .f32) (o : Fin 576) (j : Fin 5120) :
    k0_pay10 w s (ix2 o j) = wts w s o j := by
  pointwise [k0_pay10, wts]

/-- The product, element by element: a sum over the columns. -/
theorem pay11_apply (a : FVec Ideal S2048x5120 .bf16) (b : FVec Ideal S576x5120 .bf16) (r : Fin 2048) (o : Fin 576) :
    k0_pay11 a b (ix2 r o) = ∑ j, a (ix2 r j) * b (ix2 o j) := by
  pointwise [k0_pay11]

/-- The product in terms of the token. -/
theorem y_apply (v : Vec Ideal S2048x40x128 .bf16) (w : Vec Ideal S576x5120 .fp8e4m3) (s : Vec Ideal S576x5120 .f32)
    (r : Fin 2048) (o : Fin 576) :
    k0_pay11 (k0_pay9 v) (k0_pay10 w s) (ix2 r o) = ry (tok v r) (wts w s) o := by
  rw [pay11_apply]
  exact Finset.sum_congr rfl fun j _ => by rw [pay9_apply, pay10_apply]

/-- The positional part of the product. -/
theorem pay3_apply (y : FVec Ideal S2048x576 .f32) (r : Fin 2048) (p : Fin 64) :
    k0_pay3 y (ix2 r p) = y (ix2 r (pos p)) := by
  pointwise [k0_pay3, pos]

/-! ### The latent -/

/-- The normalised latent by blocks, from the projection. -/
def cNorm (y : FVec Ideal S2048x576 .f32) (g : Vec Ideal S1x512 .f32) : FVec Ideal S2048x4x128 .f32 :=
  have v44 : FVec Ideal S2048x512 .f32 := extractStridedSlice S2048x512 ![0, 0] y slices_S2048x576_o0_0_S2048x512
  have v45 : FVec Ideal S2048x512 .f32 := mulf v44 v44
  have v46 : FVec Ideal S2048 .f32 := multiReduction .add [1] S2048 v45 0x00000000#32 reduces_S2048x512_S2048 (.inl rfl) rfl
  have v47 : FVec Ideal S2048x1 .f32 := shapeCast S2048x1 v46 shapeCasts_S2048_S2048x1
  have v48 : FVec Ideal S2048x1 .f32 := broadcast S2048x1 (Scalar.ofBits .f32 0x44000000#32)
  have v49 : FVec Ideal S2048x1 .f32 := divf v47 v48
  have v50 : FVec Ideal S2048x1 .f32 := broadcast S2048x1 (Scalar.ofBits .f32 0x358637BD#32)
  have v51 : FVec Ideal S2048x1 .f32 := addf v49 v50
  have v52 : FVec Ideal S2048x1 .f32 := rsqrt v51
  have v53 : FVec Ideal S2048x512 .f32 := broadcastTo S2048x512 v52 broadcasts_S2048x1_S2048x512
  have v54 : FVec Ideal S2048x512 .f32 := mulf v44 v53
  have v56 : FVec Ideal S1x512 .f32 := shapeCast S1x512 g shapeCasts_S1x512_S1x512
  have v57 : FVec Ideal S2048x512 .f32 := broadcastTo S2048x512 v56 broadcasts_S1x512_S2048x512
  have v58 : FVec Ideal S2048x512 .f32 := mulf v54 v57
  shapeCast S2048x4x128 v58 shapeCasts_S2048x512_S2048x4x128

/-- The vector of weights of the norm. -/
def gam (g : S1x512.Idx → EReal) : Fin 512 → EReal := fun j => g (ix2 0 j)

/-- The normed latent in blocks, element by element. -/
theorem cNorm_apply (y : FVec Ideal S2048x576 .f32) (g : Vec Ideal S1x512 .f32) (r : Fin 2048) (k : Fin 4) (l : Fin 128) :
    cNorm y g (ix3 r k l) = y (ix2 r (lat (cell k l)))
      * Ideal.rsqrt (Ideal.div (∑ j : Fin 512, y (ix2 r (lat j)) * y (ix2 r (lat j))) (Ideal.ofBits .f32 0x44000000#32)
        + Ideal.ofBits .f32 0x358637BD#32) * gam g (cell k l) := by
  have e : cell k l = ⟨k.val * 128 + l.val, by omega⟩ := Fin.ext (by show 128 * k.val + l.val = k.val * 128 + l.val; omega)
  rw [e]
  pointwise [cNorm, gam, lat]

theorem pay12_eq (a : FVec Ideal S2048x5120 .bf16) (b : FVec Ideal S576x5120 .bf16) (g : Vec Ideal S1x512 .f32) :
    k0_pay12 a b g = cNorm (k0_pay11 a b) g := rfl

/-- The normed latent in terms of the token. -/
theorem cn_apply (v : Vec Ideal S2048x40x128 .bf16) (w : Vec Ideal S576x5120 .fp8e4m3) (s : Vec Ideal S576x5120 .f32)
    (g : Vec Ideal S1x512 .f32) (r : Fin 2048) (k : Fin 4) (l : Fin 128) :
    k0_pay12 (k0_pay9 v) (k0_pay10 w s) g (ix3 r k l) = rcn (tok v r) (wts w s) (gam g) k l := by
  rw [pay12_eq, cNorm_apply]
  simp only [y_apply]
  rfl

/-- The threshold of every block of the latent. -/
def cT (v2 : FVec Ideal S2048x4x128 .f32) : FVec Ideal S2048x4x1 .f32 :=
  mulf (shapeCast S2048x4x1 (multiReduction .maximumf [2] S2048x4 (absf v2) 0xFF800000#32
      reduces_S2048x4x128_S2048x4 (.inl rfl) rfl) shapeCasts_S2048x4_S2048x4x1)
    (broadcast S2048x4x1 (Scalar.ofBits .f32 0x3B124925#32))

/-- The largest magnitude of a latent block. -/
theorem cMax_apply (v : FVec Ideal S2048x4x128 .f32) (r : Fin 2048) (k : Fin 4) (u : Fin 1) :
    shapeCast S2048x4x1 (multiReduction .maximumf [2] S2048x4 v 0xFF800000#32
      reduces_S2048x4x128_S2048x4 (.inl rfl) rfl) shapeCasts_S2048x4_S2048x4x1 (ix3 r k u)
    = Finset.univ.fold max (Ideal.ofBits .f32 0xFF800000#32) fun x => v (ix3 r k x) := by
  pointwise

/-- The threshold of a latent block. -/
theorem cT_apply (v : FVec Ideal S2048x4x128 .f32) (r : Fin 2048) (k : Fin 4) (u : Fin 1) :
    cT v (ix3 r k u) = thr (fun l => v (ix3 r k l)) := by
  unfold cT thr
  rw [mulf_apply, cMax_apply, ofBits_neg_inf]
  rfl

/-- The scale of every block of the latent from its threshold. -/
def cScale (v7 : FVec Ideal S2048x4x1 .f32) : FVec Ideal S2048x4x1 .f32 :=
  have v8 : IVec S2048x4x253 32 := iota .tc S2048x4x253 32 [2] iota_S2048x4x253_d2_w32
  have v9 : FVec Ideal S2048x4x253 .f32 := sitofp .f32 v8
  have v10 : FVec Ideal S2048x4x253 .f32 := broadcast S2048x4x253 (Scalar.ofBits .f32 0x42FA0000#32)
  have v12 : FVec Ideal S2048x4x253 .f32 := exp2 (subf v9 v10)
  have v13 : FVec Ideal S2048x4x253 .f32 := broadcastTo S2048x4x253 v7 broadcasts_S2048x4x1_S2048x4x253
  have v14 : IVec S2048x4x253 1 := cmpf .ogt v12 v13
  have v15 : FVec Ideal S2048x4x253 .f32 := broadcast S2048x4x253 (Scalar.ofBits .f32 0x7F800000#32)
  have v16 : FVec Ideal S2048x4x253 .f32 := select v14 v12 v15
  have v17 : FVec Ideal S2048x4 .f32 := multiReduction .minimumf [2] S2048x4 v16 0x7F800000#32
    reduces_S2048x4x253_S2048x4 (.inl rfl) rfl
  have v18 : FVec Ideal S2048x4x1 .f32 := shapeCast S2048x4x1 v17 shapeCasts_S2048x4_S2048x4x1
  have v19 : FVec Ideal S2048x4x1 .f32 := broadcast S2048x4x1 (Scalar.ofBits .f32 0x00800000#32)
  have v20 : IVec S2048x4x1 1 := cmpf .olt v7 v19
  have v21 : FVec Ideal S2048x4x1 .f32 := broadcast S2048x4x1 (Scalar.ofBits .f32 0x3F800000#32)
  select v20 v21 v18

/-- The scale of a latent block. -/
theorem cScale_apply (v : FVec Ideal S2048x4x1 .f32) (r : Fin 2048) (k : Fin 4) (u : Fin 1) :
    cScale v (ix3 r k u) = rscale (v (ix3 r k u)) := by
  have hu : u = 0 := Subsingleton.elim _ _
  subst hu
  pointwise [cScale, rscale, power]

theorem pay13_eq (a : FVec Ideal S2048x5120 .bf16) (b : FVec Ideal S576x5120 .bf16) (g : Vec Ideal S1x512 .f32) :
    k0_pay13 a b g = cScale (cT (k0_pay12 a b g)) := rfl

/-- The latent scale in terms of the token. -/
theorem cs_apply (v : Vec Ideal S2048x40x128 .bf16) (w : Vec Ideal S576x5120 .fp8e4m3) (s : Vec Ideal S576x5120 .f32)
    (g : Vec Ideal S1x512 .f32) (r : Fin 2048) (k : Fin 4) (u : Fin 1) :
    k0_pay13 (k0_pay9 v) (k0_pay10 w s) g (ix3 r k u) = rscale (thr (rcn (tok v r) (wts w s) (gam g) k)) := by
  rw [pay13_eq, cScale_apply, cT_apply]
  simp only [cn_apply]

/-- The codes of every block of the latent from its scales, flat. -/
def cCode (v2 : FVec Ideal S2048x4x128 .f32) (s : FVec Ideal S2048x4x1 .f32) : FVec Ideal S2048x512 .f32 :=
  shapeCast S2048x512 (minimumf (broadcast S2048x4x128 (Scalar.ofBits .f32 0x43E00000#32))
    (maximumf (broadcast S2048x4x128 (Scalar.ofBits .f32 0xC3E00000#32))
      (mulf v2 (broadcastTo S2048x4x128 (divf (broadcast S2048x4x1 (Scalar.ofBits .f32 0x3F800000#32)) s)
        broadcasts_S2048x4x1_S2048x4x128)))) shapeCasts_S2048x4x128_S2048x512

/-- The block of a latent entry. -/
def cblk (j : Fin 512) : Fin 4 := ⟨j.val / 128, by omega⟩

/-- The place of a latent entry in its block. -/
def clane (j : Fin 512) : Fin 128 := ⟨j.val % 128, by omega⟩

/-- Scaling and clipping of the latent, flattened. -/
theorem cCode_apply (v2 : FVec Ideal S2048x4x128 .f32) (s : FVec Ideal S2048x4x1 .f32) (r : Fin 2048) (j : Fin 512) :
    cCode v2 s (ix2 r j) = min (Ideal.ofBits .f32 0x43E00000#32)
      (max (Ideal.ofBits .f32 0xC3E00000#32) (v2 (ix3 r (cblk j) (clane j)) * Ideal.div 1 (s (ix3 r (cblk j) 0)))) := by
  pointwise [cCode, cblk, clane]

theorem pay1_eq (a : FVec Ideal S2048x5120 .bf16) (b : FVec Ideal S576x5120 .bf16) (g : Vec Ideal S1x512 .f32) :
    k0_pay1 (k0_pay14 a b g) k0_pay15 = cCode (k0_pay12 a b g) (k0_pay13 a b g) := rfl

/-- The latent code in terms of the token. -/
theorem cc_apply (v : Vec Ideal S2048x40x128 .bf16) (w : Vec Ideal S576x5120 .fp8e4m3) (s : Vec Ideal S576x5120 .f32)
    (g : Vec Ideal S1x512 .f32) (r : Fin 2048) (j : Fin 512) :
    k0_pay1 (k0_pay14 (k0_pay9 v) (k0_pay10 w s) g) k0_pay15 (ix2 r j)
      = rcode (thr (rcn (tok v r) (wts w s) (gam g) (cblk j))) (rcn (tok v r) (wts w s) (gam g) (cblk j) (clane j)) := by
  rw [pay1_eq, cCode_apply, cs_apply, cn_apply]
  rfl

/-- The latent scales without their unit axis. -/
theorem pay2_apply (v : FVec Ideal S2048x4x1 .f32) (r : Fin 2048) (k : Fin 4) :
    k0_pay2 v (ix2 r k) = v (ix3 r k 0) := by
  pointwise [k0_pay2]

end Cert.ReferenceIdeal.Read

end
-- ==== Proof.RefArr.lean ====
module

public import proofs.«01_k».proof.Proof.RefRead
public import proofs.«01_k».proof.Proof.Args
public import proofs.«01_k».proof.Proof.Gen.ReferenceIdeal.Value

/-!
# What the reference leaves in its five result arrays
-/

@[expose] public section

set_option maxRecDepth 16384

noncomputable section

namespace Cert.ReferenceIdeal.Read

open Idealize.ShloMosaic Idealize.ShloMosaic.TcCoe Idealize.ShloMosaic.Tactic Cert.ReferenceIdeal Cert.ReferenceIdeal.Gen Cert.Latent

variable (m : (ℓ : Loc nD τ sig) → Buf (Elt Ideal) ℓ)

/-! ### The arguments, and what the host operations make of them -/

/-- The activations on device c. -/
def arg0V (c : Dev nD) : S16x128x5120.Idx → EReal := m ((c : Thread nD τ).loc main_arg0)
/-- The weights' codes on device c. -/
def arg1V (c : Dev nD) : S576x5120.Idx → EReal := m ((c : Thread nD τ).loc main_arg1)
/-- The weights' scales on device c. -/
def arg2V (c : Dev nD) : S5x40.Idx → EReal := m ((c : Thread nD τ).loc main_arg2)
/-- The gains on device c. -/
def arg3V (c : Dev nD) : S512.Idx → EReal := m ((c : Thread nD τ).loc main_arg3)

/-- The activations as blocks of 128: row r is token r. -/
theorem V_v5 (c : Dev nD) (r : Fin 2048) (k : Fin 40) (l : Fin 128) :
    (V m c main_v5 : S2048x40x128.Idx → EReal) (ix3 r k l) = aTok (arg0V m c) r k l := by
  unfold_abbrev_sides
  after_results
  exact shapeCast_blocks (arg0V m c) _ r k l

/-- The gains as one row. -/
theorem V_v6 (c : Dev nD) (j : Fin 512) : (V m c main_v6 : S1x512.Idx → EReal) (ix2 0 j) = aG (arg3V m c) j := by
  unfold_abbrev_sides
  after_results
  exact shapeCast_row (arg3V m c) _ j

/-- The block scales spread over the rows and columns of their blocks. -/
theorem spread (s : S5x40.Idx → EReal) (o : Fin 576) (j : Fin 5120) :
    extractStridedSlice S576x5120 ![0, 0]
      (shapeCast S640x5120 (broadcastInDim S640x40x128 ![0, 1] bcast_S640x40_S640x40x128_0_1
        (shapeCast S640x40 (broadcastInDim S5x128x40 ![0, 2] bcast_S5x40_S5x128x40_0_2 s) shapeCasts_S5x128x40_S640x40))
        shapeCasts_S640x40x128_S640x5120) slices_S640x5120_S576x5120_0_0 (ix2 o j) = s (ix2 ⟨o.val / 128, by omega⟩ (blk j)) := by
  pointwise [blk]

/-- The weights' scales, each repeated over its block. -/
theorem V_v4 (c : Dev nD) (o : Fin 576) (j : Fin 5120) :
    (V m c main_v4 : S576x5120.Idx → EReal) (ix2 o j) = arg2V m c (ix2 ⟨o.val / 128, by omega⟩ (blk j)) := by
  unfold_abbrev_sides
  after_results
  exact spread (arg2V m c) o j

/-- The one point reads all of the activations. -/
theorem idx0 : ∀ t : Fin cfg0.N, win0_0.index t = ![0, 0, 0] := (by decide +kernel : ∀ t : Fin grid0.N, _)
/-- The one point reads all of the weights. -/
theorem idx1 : ∀ t : Fin cfg0.N, win0_1.index t = ![0, 0] := (by decide +kernel : ∀ t : Fin grid0.N, _)
/-- The one point reads all of the scales. -/
theorem idx2 : ∀ t : Fin cfg0.N, win0_2.index t = ![0, 0] := (by decide +kernel : ∀ t : Fin grid0.N, _)
/-- The one point reads all of the gains. -/
theorem idx3 : ∀ t : Fin cfg0.N, win0_3.index t = ![0, 0] := (by decide +kernel : ∀ t : Fin grid0.N, _)

/-- A load of the whole array is the array. -/
theorem ld0 (x : Vec Ideal S2048x40x128 .bf16) : View.ld x r0_0 = x := View.ld_unit_zero (by funext a; fin_cases a <;> rfl) _ x
/-- A load of the whole array is the array. -/
theorem ld1 {e : EltTy} (x : Vec Ideal S576x5120 e) : View.ld x r0_1 = x := View.ld_unit_zero (by funext a; fin_cases a <;> rfl) _ x
/-- A load of the whole array is the array. -/
theorem ld2 (x : Vec Ideal S1x512 .f32) : View.ld x r0_2 = x := View.ld_unit_zero (by funext a; fin_cases a <;> rfl) _ x

/-- A token as the body sees it. -/
theorem tok_iblk (c : Dev nD) (t : Fin cfg0.N) (r : Fin 2048) : tok (iblk m c 0 t) r = aTok (arg0V m c) r := by
  funext k l
  unfold tok
  rw [← V_v5]
  show (V m c main_v5) (((cfg0.win 0).blk t).view.emb (ix3 r k l)) = _
  refine congrArg (V m c main_v5) ?_
  funext a
  apply Fin.ext
  blk_simp
  rw [idx0]
  fin_cases a
  · show 0 * 2048 + r.val = r.val; omega
  · show 0 * 40 + k.val = k.val; omega
  · show 0 * 128 + l.val = l.val; omega

/-- The dequantised weights as the body sees them. -/
theorem wts_iblk (c : Dev nD) (t : Fin cfg0.N) :
    wts (iblk m c 1 t) (iblk m c 2 t) = aW (arg1V m c) (arg2V m c) := by
  funext o j
  unfold wts aW
  refine congrArg₂ (· * ·) ?_ ?_
  · show (V m c main_arg1) (((cfg0.win 1).blk t).view.emb (ix2 o j)) = _
    rw [V_main_arg1]
    refine congrArg (m ((c : Thread nD τ).loc main_arg1)) ?_
    funext a
    apply Fin.ext
    blk_simp
    rw [idx1]
    fin_cases a
    · show 0 * 576 + o.val = o.val; omega
    · show 0 * 5120 + j.val = j.val; omega
  · rw [← V_v4]
    show (V m c main_v4) (((cfg0.win 2).blk t).view.emb (ix2 o j)) = _
    refine congrArg (V m c main_v4) ?_
    funext a
    apply Fin.ext
    blk_simp
    rw [idx2]
    fin_cases a
    · show 0 * 576 + o.val = o.val; omega
    · show 0 * 5120 + j.val = j.val; omega

/-- The gains as the body sees them. -/
theorem gam_iblk (c : Dev nD) (t : Fin cfg0.N) : gam (iblk m c 3 t) = aG (arg3V m c) := by
  funext j
  unfold gam
  rw [← V_v6]
  show (V m c main_v6) (((cfg0.win 3).blk t).view.emb (ix2 0 j)) = _
  refine congrArg (V m c main_v6) ?_
  funext a
  apply Fin.ext
  blk_simp
  rw [idx3]
  fin_cases a
  · rfl
  · show 0 * 512 + j.val = j.val; omega

/-! ### The result arrays by token -/

section Outs

variable (x0 : Vec Ideal S2048x40x128 .bf16) (x1 : Vec Ideal S576x5120 .fp8e4m3) (x2 : Vec Ideal S576x5120 .f32) (x3 : Vec Ideal S1x512 .f32)

/-- The body's latent codes. -/
theorem out4_apply (r : Fin 2048) (u : Fin 512) : out0_4 x0 x1 x2 x3 (ix2 r u)
    = rcode (thr (rcn (tok x0 r) (wts x1 x2) (gam x3) (cblk u))) (rcn (tok x0 r) (wts x1 x2) (gam x3) (cblk u) (clane u)) := by
  unfold out0_4 k0_pay16 k0_pay17 r0_3
  rw [View.canon_unit_zero (by funext a; fin_cases a <;> rfl), ld0, ld1, ld1, ld2]
  exact cc_apply ..

/-- The body's latent scales. -/
theorem out5_apply (r : Fin 2048) (u : Fin 4) : out0_5 x0 x1 x2 x3 (ix2 r u) = rscale (thr (rcn (tok x0 r) (wts x1 x2) (gam x3) u)) := by
  unfold out0_5 k0_pay16 k0_pay17 r0_4
  rw [View.canon_unit_zero (by funext a; fin_cases a <;> rfl), ld0, ld1, ld1, ld2, pay2_apply]
  exact cs_apply ..

/-- The body's positional keys. -/
theorem out6_apply (r : Fin 2048) (u : Fin 64) : out0_6 x0 x1 x2 x3 (ix2 r u) = ry (tok x0 r) (wts x1 x2) (pos u) := by
  unfold out0_6 k0_pay16 k0_pay17 r0_5
  rw [View.canon_unit_zero (by funext a; fin_cases a <;> rfl), ld0, ld1, ld1, pay3_apply]
  exact y_apply ..

/-- The body's codes of the inputs. -/
theorem out7_apply (r : Fin 2048) (u : Fin 5120) : out0_7 x0 x1 x2 x3 (ix2 r u) = rcode (thr (tok x0 r (blk u))) (tok x0 r (blk u) (lane u)) := by
  unfold out0_7 r0_6
  rw [View.canon_unit_zero (by funext a; fin_cases a <;> rfl), ld0, pay4_apply]
  exact pay8_apply ..

/-- The body's scales of the inputs. -/
theorem out8_apply (r : Fin 2048) (u : Fin 40) : out0_8 x0 x1 x2 x3 (ix2 r u) = rscale (thr (tok x0 r u)) := by
  unfold out0_8 r0_7
  rw [View.canon_unit_zero (by funext a; fin_cases a <;> rfl), ld0, pay5_apply]
  exact pay7_apply ..

end Outs

/-- The latent codes. -/
theorem arr4 (c : Dev nD) : (dats m 0 c).arrAt 4 cfg0.N = fun i : S2048x512.Idx =>
    rcode (thr (rcn (aTok (arg0V m c) (i 0)) (aW (arg1V m c) (arg2V m c)) (aG (arg3V m c)) (cblk (i 1))))
      (rcn (aTok (arg0V m c) (i 0)) (aW (arg1V m c) (arg2V m c)) (aG (arg3V m c)) (cblk (i 1)) (clane (i 1))) := by
  refine (dats m 0 c).arrAt_eq_of_after_last 4 t0_0 (by decide +kernel) _ fun j => ?_
  rw [after0_4]
  obtain ⟨r, u, rfl⟩ : ∃ (r : Fin 2048) (u : Fin 512), j = ix2 r u := ⟨j 0, j 1, eq_ix2 j⟩
  have h := out4_apply (iblk m c 0 t0_0) (iblk m c 1 t0_0) (iblk m c 2 t0_0) (iblk m c 3 t0_0) r u
  rw [tok_iblk, wts_iblk, gam_iblk] at h
  rw [show (cfg0.win 4).arr.view.emb (ix2 r u) = (ix2 r u : S2048x512.Idx) from rfl, cast_eq]
  exact (congrArg (out0_4 (iblk m c 0 t0_0) (iblk m c 1 t0_0) (iblk m c 2 t0_0) (iblk m c 3 t0_0)) rfl).trans h

/-- The latent scales. -/
theorem arr5 (c : Dev nD) : (dats m 0 c).arrAt 5 cfg0.N = fun i : S2048x4.Idx =>
    rscale (thr (rcn (aTok (arg0V m c) (i 0)) (aW (arg1V m c) (arg2V m c)) (aG (arg3V m c)) (i 1))) := by
  refine (dats m 0 c).arrAt_eq_of_after_last 5 t0_0 (by decide +kernel) _ fun j => ?_
  rw [after0_5]
  obtain ⟨r, u, rfl⟩ : ∃ (r : Fin 2048) (u : Fin 4), j = ix2 r u := ⟨j 0, j 1, eq_ix2 j⟩
  have h := out5_apply (iblk m c 0 t0_0) (iblk m c 1 t0_0) (iblk m c 2 t0_0) (iblk m c 3 t0_0) r u
  rw [tok_iblk, wts_iblk, gam_iblk] at h
  rw [show (cfg0.win 5).arr.view.emb (ix2 r u) = (ix2 r u : S2048x4.Idx) from rfl, cast_eq]
  exact (congrArg (out0_5 (iblk m c 0 t0_0) (iblk m c 1 t0_0) (iblk m c 2 t0_0) (iblk m c 3 t0_0)) rfl).trans h

/-- The positional keys. -/
theorem arr6 (c : Dev nD) : (dats m 0 c).arrAt 6 cfg0.N = fun i : S2048x64.Idx =>
    ry (aTok (arg0V m c) (i 0)) (aW (arg1V m c) (arg2V m c)) (pos (i 1)) := by
  refine (dats m 0 c).arrAt_eq_of_after_last 6 t0_0 (by decide +kernel) _ fun j => ?_
  rw [after0_6]
  obtain ⟨r, u, rfl⟩ : ∃ (r : Fin 2048) (u : Fin 64), j = ix2 r u := ⟨j 0, j 1, eq_ix2 j⟩
  have h := out6_apply (iblk m c 0 t0_0) (iblk m c 1 t0_0) (iblk m c 2 t0_0) (iblk m c 3 t0_0) r u
  rw [tok_iblk, wts_iblk] at h
  rw [show (cfg0.win 6).arr.view.emb (ix2 r u) = (ix2 r u : S2048x64.Idx) from rfl, cast_eq]
  exact (congrArg (out0_6 (iblk m c 0 t0_0) (iblk m c 1 t0_0) (iblk m c 2 t0_0) (iblk m c 3 t0_0)) rfl).trans h

/-- The codes of the inputs. -/
theorem arr7 (c : Dev nD) : (dats m 0 c).arrAt 7 cfg0.N = fun i : S2048x5120.Idx =>
    rcode (thr (aTok (arg0V m c) (i 0) (blk (i 1)))) (aTok (arg0V m c) (i 0) (blk (i 1)) (lane (i 1))) := by
  refine (dats m 0 c).arrAt_eq_of_after_last 7 t0_0 (by decide +kernel) _ fun j => ?_
  rw [after0_7]
  obtain ⟨r, u, rfl⟩ : ∃ (r : Fin 2048) (u : Fin 5120), j = ix2 r u := ⟨j 0, j 1, eq_ix2 j⟩
  have h := out7_apply (iblk m c 0 t0_0) (iblk m c 1 t0_0) (iblk m c 2 t0_0) (iblk m c 3 t0_0) r u
  rw [tok_iblk] at h
  rw [show (cfg0.win 7).arr.view.emb (ix2 r u) = (ix2 r u : S2048x5120.Idx) from rfl, cast_eq]
  exact (congrArg (out0_7 (iblk m c 0 t0_0) (iblk m c 1 t0_0) (iblk m c 2 t0_0) (iblk m c 3 t0_0)) rfl).trans h

/-- The scales of the inputs. -/
theorem arr8 (c : Dev nD) : (dats m 0 c).arrAt 8 cfg0.N = fun i : S2048x40.Idx =>
    rscale (thr (aTok (arg0V m c) (i 0) (i 1))) := by
  refine (dats m 0 c).arrAt_eq_of_after_last 8 t0_0 (by decide +kernel) _ fun j => ?_
  rw [after0_8]
  obtain ⟨r, u, rfl⟩ : ∃ (r : Fin 2048) (u : Fin 40), j = ix2 r u := ⟨j 0, j 1, eq_ix2 j⟩
  have h := out8_apply (iblk m c 0 t0_0) (iblk m c 1 t0_0) (iblk m c 2 t0_0) (iblk m c 3 t0_0) r u
  rw [tok_iblk] at h
  rw [show (cfg0.win 8).arr.view.emb (ix2 r u) = (ix2 r u : S2048x40.Idx) from rfl, cast_eq]
  exact (congrArg (out0_8 (iblk m c 0 t0_0) (iblk m c 1 t0_0) (iblk m c 2 t0_0) (iblk m c 3 t0_0)) rfl).trans h

end Cert.ReferenceIdeal.Read

end
-- ==== Proof.Agree.lean ====
module

public import proofs.«01_k».proof.Proof.KerArr
public import proofs.«01_k».proof.Proof.RefArr

/-!
# The two programs' results agree

Token by token the kernel's five results and the reference's are the same extended reals, when the activations and the gains are at most
2^128 in magnitude.
-/

@[expose] public section

set_option maxRecDepth 16384

noncomputable section

namespace Cert.Agree

open Idealize.ShloMosaic Idealize.ShloMosaic.TcCoe Cert.Latent

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The arguments agree on device `c` and are bounded. -/
structure Same : Prop where
  a0 : ReferenceIdeal.Read.arg0V m' c = KernelIdeal.Read.arg0V m c
  a1 : ReferenceIdeal.Read.arg1V m' c = KernelIdeal.Read.arg1V m c
  a2 : ReferenceIdeal.Read.arg2V m' c = KernelIdeal.Read.arg2V m c
  a3 : ReferenceIdeal.Read.arg3V m' c = KernelIdeal.Read.arg3V m c
  x : ∀ i, max (KernelIdeal.Read.arg0V m c i) (-(KernelIdeal.Read.arg0V m c i)) ≤ ((2 ^ 128 : ℝ) : EReal)
  g : ∀ i, max (KernelIdeal.Read.arg3V m c i) (-(KernelIdeal.Read.arg3V m c i)) ≤ ((2 ^ 128 : ℝ) : EReal)

variable {m m' c} (h : Same m m' c)

include h

/-- A token's activations are bounded. -/
theorem tok_le (r : Fin 2048) (k : Fin 40) (l : Fin 128) :
    max (aTok (KernelIdeal.Read.arg0V m c) r k l) (-(aTok (KernelIdeal.Read.arg0V m c) r k l)) ≤ ((2 ^ 128 : ℝ) : EReal) := h.x _

/-- The gains are bounded. -/
theorem gain_le (j : Fin 512) :
    max (aG (KernelIdeal.Read.arg3V m c) j) (-(aG (KernelIdeal.Read.arg3V m c) j)) ≤ ((2 ^ 128 : ℝ) : EReal) := h.g _

/-- The latent codes. -/
theorem codes : (ReferenceIdeal.Gen.dats m' 0 c).arrAt 4 ReferenceIdeal.cfg0.N = KernelIdeal.Value.G4 m c := by
  rw [ReferenceIdeal.Read.arr4]
  funext i
  obtain ⟨r, u, rfl⟩ : ∃ (r : Fin 2048) (u : Fin 512), i = ix2 r u := ⟨i 0, i 1, eq_ix2 i⟩
  rw [h.a0, h.a1, h.a2, h.a3]
  refine Eq.trans ?_ (KernelIdeal.Read.G4_apply m c r u).symm
  exact (latent_eq (tok_le h r) (gain_le h) (KernelIdeal.Read.lblk u) (KernelIdeal.Read.llane u)).2.symm

/-- The latent scales. -/
theorem scales : (ReferenceIdeal.Gen.dats m' 0 c).arrAt 5 ReferenceIdeal.cfg0.N = KernelIdeal.Value.G5 m c := by
  rw [ReferenceIdeal.Read.arr5]
  funext i
  obtain ⟨r, u, rfl⟩ : ∃ (r : Fin 2048) (u : Fin 4), i = ix2 r u := ⟨i 0, i 1, eq_ix2 i⟩
  rw [h.a0, h.a1, h.a2, h.a3]
  refine Eq.trans ?_ (KernelIdeal.Read.G5_apply m c r u).symm
  exact (latent_eq (tok_le h r) (gain_le h) u 0).1.symm

/-- The positional keys. -/
theorem keys : (ReferenceIdeal.Gen.dats m' 0 c).arrAt 6 ReferenceIdeal.cfg0.N = KernelIdeal.Value.G6 m c := by
  rw [ReferenceIdeal.Read.arr6]
  funext i
  obtain ⟨r, u, rfl⟩ : ∃ (r : Fin 2048) (u : Fin 64), i = ix2 r u := ⟨i 0, i 1, eq_ix2 i⟩
  rw [h.a0, h.a1, h.a2]
  refine Eq.trans ?_ (KernelIdeal.Read.G6_apply m c r u).symm
  exact (ky_eq (tok_le h r) (pos u)).symm

/-- The codes of the inputs. -/
theorem inputCodes : (ReferenceIdeal.Gen.dats m' 0 c).arrAt 7 ReferenceIdeal.cfg0.N = KernelIdeal.Value.G7 m c := by
  rw [ReferenceIdeal.Read.arr7]
  funext i
  obtain ⟨r, u, rfl⟩ : ∃ (r : Fin 2048) (u : Fin 5120), i = ix2 r u := ⟨i 0, i 1, eq_ix2 i⟩
  rw [h.a0]
  refine Eq.trans ?_ (KernelIdeal.Read.G7_apply m c r u).symm
  exact (kcode_eq (thr_x (tok_le h r) (blk u)) _).2.symm

/-- The scales of the inputs. -/
theorem inputScales : (ReferenceIdeal.Gen.dats m' 0 c).arrAt 8 ReferenceIdeal.cfg0.N = KernelIdeal.Value.G8 m c := by
  rw [ReferenceIdeal.Read.arr8]
  funext i
  obtain ⟨r, u, rfl⟩ : ∃ (r : Fin 2048) (u : Fin 40), i = ix2 r u := ⟨i 0, i 1, eq_ix2 i⟩
  rw [h.a0]
  refine Eq.trans ?_ (KernelIdeal.Read.G8_apply m c r u).symm
  exact (kcode_eq (thr_x (tok_le h r) u) 0).1.symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.Pre_finite
public import proofs.«01_k».proof.Proof.Bound
public import proofs.«01_k».proof.Proof.Agree
public import Idealize.ShloMosaic.Adequacy
public import Idealize.ShloMosaic.Init

@[expose] public section

noncomputable section

namespace Cert.Proof

open Idealize.ShloMosaic Idealize.SL.Sem Cert.Kernel

/-- On every device the arguments of the two programs are the same and bounded. -/
theorem same [Cert.Pre_finite.Facts]
    {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ}
    (hpre : Cert.Pre_KernelIdeal_finite m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) : Cert.Agree.Same m m' c where
  a0 := (hag c).1
  a1 := (hag c).2.1
  a2 := (hag c).2.2.1
  a3 := (hag c).2.2.2
  x := Cert.Pre_finite.Read.x_bound (hpre c).1
  g := Cert.Pre_finite.Read.gamma_bound (hpre c).2

/-- The kernel and the reference end with equal results. -/
theorem algebraic [Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hpre hag
  refine ⟨fun c => Cert.KernelIdeal.Value.G4 m c, fun c => Cert.KernelIdeal.Value.G5 m c,
    fun c => Cert.KernelIdeal.Value.G6 m c, fun c => Cert.KernelIdeal.Value.G7 m c,
    fun c => Cert.KernelIdeal.Value.G8 m c, Cert.KernelIdeal.Value.run m g,
    (θ_run _ _ _).mono (fun r hr c => ?_) (Cert.ReferenceIdeal.Value.run_blocks m' g')⟩
  have h := same hpre hag c
  obtain ⟨h0, h1, h2, h3, h4, h5⟩ := hr c
  exact ⟨h0.trans (Cert.Agree.codes h), h1.trans (Cert.Agree.scales h), h2.trans (Cert.Agree.keys h),
    h3.trans (Cert.Agree.inputCodes h), h4.trans (Cert.Agree.inputScales h), h5⟩

/-- Every claim of this certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, @algebraic Cert.Pre_finite.Gen.facts⟩

end Cert.Proof

end
